-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelQK (m : (ℓ : Loc Cert.KernelQK.nD Cert.KernelQK.τ Cert.KernelQK.sig) → Buf (Elt Bits) ℓ) : Prop :=
  True

def Pre_KernelQKIdeal (m : (ℓ : Loc Cert.KernelQKIdeal.nD Cert.KernelQKIdeal.τ Cert.KernelQKIdeal.sig) → Buf (Elt Ideal) ℓ) : Prop :=
  True

def Pre_ReferenceQKIdeal (m : (ℓ : Loc Cert.ReferenceQKIdeal.nD Cert.ReferenceQKIdeal.τ Cert.ReferenceQKIdeal.sig) → Buf (Elt Ideal) ℓ) : Prop :=
  True

def Pre_KernelVO (m : (ℓ : Loc Cert.KernelVO.nD Cert.KernelVO.τ Cert.KernelVO.sig) → Buf (Elt Bits) ℓ) : Prop :=
  True

def Pre_KernelVOIdeal (m : (ℓ : Loc Cert.KernelVOIdeal.nD Cert.KernelVOIdeal.τ Cert.KernelVOIdeal.sig) → Buf (Elt Ideal) ℓ) : Prop :=
  True

def Pre_ReferenceVOIdeal (m : (ℓ : Loc Cert.ReferenceVOIdeal.nD Cert.ReferenceVOIdeal.τ Cert.ReferenceVOIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelGateUp (m : (ℓ : Loc Cert.KernelGateUp.nD Cert.KernelGateUp.τ Cert.KernelGateUp.sig) → Buf (Elt Bits) ℓ) : Prop :=
  True

def Pre_KernelGateUpIdeal (m : (ℓ : Loc Cert.KernelGateUpIdeal.nD Cert.KernelGateUpIdeal.τ Cert.KernelGateUpIdeal.sig) → Buf (Elt Ideal) ℓ) : Prop :=
  True

def Pre_ReferenceGateUpIdeal (m : (ℓ : Loc Cert.ReferenceGateUpIdeal.nD Cert.ReferenceGateUpIdeal.τ Cert.ReferenceGateUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNormH (m : (ℓ : Loc Cert.KernelNormH.nD Cert.KernelNormH.τ Cert.KernelNormH.sig) → Buf (Elt Bits) ℓ) : Prop :=
  True

def Pre_KernelNormHIdeal (m : (ℓ : Loc Cert.KernelNormHIdeal.nD Cert.KernelNormHIdeal.τ Cert.KernelNormHIdeal.sig) → Buf (Elt Ideal) ℓ) : Prop :=
  True

def Pre_ReferenceNormHIdeal (m : (ℓ : Loc Cert.ReferenceNormHIdeal.nD Cert.ReferenceNormHIdeal.τ Cert.ReferenceNormHIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelAttnV0 (m : (ℓ : Loc Cert.KernelAttnV0.nD Cert.KernelAttnV0.τ Cert.KernelAttnV0.sig) → Buf (Elt Bits) ℓ) : Prop :=
  True

def Pre_KernelAttnV0Ideal (m : (ℓ : Loc Cert.KernelAttnV0Ideal.nD Cert.KernelAttnV0Ideal.τ Cert.KernelAttnV0Ideal.sig) → Buf (Elt Ideal) ℓ) : Prop :=
  True

def Pre_ReferenceAttnV0Ideal (m : (ℓ : Loc Cert.ReferenceAttnV0Ideal.nD Cert.ReferenceAttnV0Ideal.τ Cert.ReferenceAttnV0Ideal.sig) → Buf (Elt Ideal) ℓ) : Prop :=
  True

def Pre_KernelAttnV1 (m : (ℓ : Loc Cert.KernelAttnV1.nD Cert.KernelAttnV1.τ Cert.KernelAttnV1.sig) → Buf (Elt Bits) ℓ) : Prop :=
  True

def Pre_KernelAttnV1Ideal (m : (ℓ : Loc Cert.KernelAttnV1Ideal.nD Cert.KernelAttnV1Ideal.τ Cert.KernelAttnV1Ideal.sig) → Buf (Elt Ideal) ℓ) : Prop :=
  True

def Pre_ReferenceAttnV1Ideal (m : (ℓ : Loc Cert.ReferenceAttnV1Ideal.nD Cert.ReferenceAttnV1Ideal.τ Cert.ReferenceAttnV1Ideal.sig) → Buf (Elt Ideal) ℓ) : Prop :=
  True

def Pre_KernelAttnV2 (m : (ℓ : Loc Cert.KernelAttnV2.nD Cert.KernelAttnV2.τ Cert.KernelAttnV2.sig) → Buf (Elt Bits) ℓ) : Prop :=
  True

def Pre_KernelAttnV2Ideal (m : (ℓ : Loc Cert.KernelAttnV2Ideal.nD Cert.KernelAttnV2Ideal.τ Cert.KernelAttnV2Ideal.sig) → Buf (Elt Ideal) ℓ) : Prop :=
  True

def Pre_ReferenceAttnV2Ideal (m : (ℓ : Loc Cert.ReferenceAttnV2Ideal.nD Cert.ReferenceAttnV2Ideal.τ Cert.ReferenceAttnV2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelQK [hKernelQK : Cert.KernelQK.Facts] : Prop :=
  ∀ (m : (ℓ : Loc Cert.KernelQK.nD Cert.KernelQK.τ Cert.KernelQK.sig) → Buf (Elt Bits) ℓ) (g : Dev Cert.KernelQK.nD → PrngReg), Pre_KernelQK m →
    θ_run (Cert.KernelQK.defs (F := Bits)) (onTc (τ := Cert.KernelQK.τ) (Cert.KernelQK.main (F := Bits))) ⟨m, fun _ => 0, g⟩ (fun r => (∀ c : Dev Cert.KernelQK.nD,
      r.2.mem ((c.tc : Thread Cert.KernelQK.nD Cert.KernelQK.τ).loc Cert.KernelQK.main_arg0) = m ((c.tc : Thread Cert.KernelQK.nD Cert.KernelQK.τ).loc Cert.KernelQK.main_arg0)
      ∧ r.2.mem ((c.tc : Thread Cert.KernelQK.nD Cert.KernelQK.τ).loc Cert.KernelQK.main_arg1) = m ((c.tc : Thread Cert.KernelQK.nD Cert.KernelQK.τ).loc Cert.KernelQK.main_arg1))
      ∧ r.2.sem = fun _ => 0)

def quiescent_KernelQKIdeal [hKernelQKIdeal : Cert.KernelQKIdeal.Facts] : Prop :=
  ∀ (m : (ℓ : Loc Cert.KernelQKIdeal.nD Cert.KernelQKIdeal.τ Cert.KernelQKIdeal.sig) → Buf (Elt Ideal) ℓ) (g : Dev Cert.KernelQKIdeal.nD → PrngReg), Pre_KernelQKIdeal m →
    θ_run (Cert.KernelQKIdeal.defs (F := Ideal)) (onTc (τ := Cert.KernelQKIdeal.τ) (Cert.KernelQKIdeal.main (F := Ideal))) ⟨m, fun _ => 0, g⟩ (fun r => (∀ c : Dev Cert.KernelQKIdeal.nD,
      r.2.mem ((c.tc : Thread Cert.KernelQKIdeal.nD Cert.KernelQKIdeal.τ).loc Cert.KernelQKIdeal.main_arg0) = m ((c.tc : Thread Cert.KernelQKIdeal.nD Cert.KernelQKIdeal.τ).loc Cert.KernelQKIdeal.main_arg0)
      ∧ r.2.mem ((c.tc : Thread Cert.KernelQKIdeal.nD Cert.KernelQKIdeal.τ).loc Cert.KernelQKIdeal.main_arg1) = m ((c.tc : Thread Cert.KernelQKIdeal.nD Cert.KernelQKIdeal.τ).loc Cert.KernelQKIdeal.main_arg1))
      ∧ r.2.sem = fun _ => 0)

def quiescent_ReferenceQKIdeal [hReferenceQKIdeal : Cert.ReferenceQKIdeal.Facts] : Prop :=
  ∀ (m : (ℓ : Loc Cert.ReferenceQKIdeal.nD Cert.ReferenceQKIdeal.τ Cert.ReferenceQKIdeal.sig) → Buf (Elt Ideal) ℓ) (g : Dev Cert.ReferenceQKIdeal.nD → PrngReg), Pre_ReferenceQKIdeal m →
    θ_run (Cert.ReferenceQKIdeal.defs (F := Ideal)) (onTc (τ := Cert.ReferenceQKIdeal.τ) (Cert.ReferenceQKIdeal.main (F := Ideal))) ⟨m, fun _ => 0, g⟩ (fun r => (∀ c : Dev Cert.ReferenceQKIdeal.nD,
      r.2.mem ((c.tc : Thread Cert.ReferenceQKIdeal.nD Cert.ReferenceQKIdeal.τ).loc Cert.ReferenceQKIdeal.main_arg0) = m ((c.tc : Thread Cert.ReferenceQKIdeal.nD Cert.ReferenceQKIdeal.τ).loc Cert.ReferenceQKIdeal.main_arg0)
      ∧ r.2.mem ((c.tc : Thread Cert.ReferenceQKIdeal.nD Cert.ReferenceQKIdeal.τ).loc Cert.ReferenceQKIdeal.main_arg1) = m ((c.tc : Thread Cert.ReferenceQKIdeal.nD Cert.ReferenceQKIdeal.τ).loc Cert.ReferenceQKIdeal.main_arg1))
      ∧ r.2.sem = fun _ => 0)

def quiescent_KernelVO [hKernelVO : Cert.KernelVO.Facts] : Prop :=
  ∀ (m : (ℓ : Loc Cert.KernelVO.nD Cert.KernelVO.τ Cert.KernelVO.sig) → Buf (Elt Bits) ℓ) (g : Dev Cert.KernelVO.nD → PrngReg), Pre_KernelVO m →
    θ_run (Cert.KernelVO.defs (F := Bits)) (onTc (τ := Cert.KernelVO.τ) (Cert.KernelVO.main (F := Bits))) ⟨m, fun _ => 0, g⟩ (fun r => (∀ c : Dev Cert.KernelVO.nD,
      r.2.mem ((c.tc : Thread Cert.KernelVO.nD Cert.KernelVO.τ).loc Cert.KernelVO.main_arg0) = m ((c.tc : Thread Cert.KernelVO.nD Cert.KernelVO.τ).loc Cert.KernelVO.main_arg0)
      ∧ r.2.mem ((c.tc : Thread Cert.KernelVO.nD Cert.KernelVO.τ).loc Cert.KernelVO.main_arg1) = m ((c.tc : Thread Cert.KernelVO.nD Cert.KernelVO.τ).loc Cert.KernelVO.main_arg1))
      ∧ r.2.sem = fun _ => 0)

def quiescent_KernelVOIdeal [hKernelVOIdeal : Cert.KernelVOIdeal.Facts] : Prop :=
  ∀ (m : (ℓ : Loc Cert.KernelVOIdeal.nD Cert.KernelVOIdeal.τ Cert.KernelVOIdeal.sig) → Buf (Elt Ideal) ℓ) (g : Dev Cert.KernelVOIdeal.nD → PrngReg), Pre_KernelVOIdeal m →
    θ_run (Cert.KernelVOIdeal.defs (F := Ideal)) (onTc (τ := Cert.KernelVOIdeal.τ) (Cert.KernelVOIdeal.main (F := Ideal))) ⟨m, fun _ => 0, g⟩ (fun r => (∀ c : Dev Cert.KernelVOIdeal.nD,
      r.2.mem ((c.tc : Thread Cert.KernelVOIdeal.nD Cert.KernelVOIdeal.τ).loc Cert.KernelVOIdeal.main_arg0) = m ((c.tc : Thread Cert.KernelVOIdeal.nD Cert.KernelVOIdeal.τ).loc Cert.KernelVOIdeal.main_arg0)
      ∧ r.2.mem ((c.tc : Thread Cert.KernelVOIdeal.nD Cert.KernelVOIdeal.τ).loc Cert.KernelVOIdeal.main_arg1) = m ((c.tc : Thread Cert.KernelVOIdeal.nD Cert.KernelVOIdeal.τ).loc Cert.KernelVOIdeal.main_arg1))
      ∧ r.2.sem = fun _ => 0)

def quiescent_ReferenceVOIdeal [hReferenceVOIdeal : Cert.ReferenceVOIdeal.Facts] : Prop :=
  ∀ (m : (ℓ : Loc Cert.ReferenceVOIdeal.nD Cert.ReferenceVOIdeal.τ Cert.ReferenceVOIdeal.sig) → Buf (Elt Ideal) ℓ) (g : Dev Cert.ReferenceVOIdeal.nD → PrngReg), Pre_ReferenceVOIdeal m →
    θ_run (Cert.ReferenceVOIdeal.defs (F := Ideal)) (onTc (τ := Cert.ReferenceVOIdeal.τ) (Cert.ReferenceVOIdeal.main (F := Ideal))) ⟨m, fun _ => 0, g⟩ (fun r => (∀ c : Dev Cert.ReferenceVOIdeal.nD,
      r.2.mem ((c.tc : Thread Cert.ReferenceVOIdeal.nD Cert.ReferenceVOIdeal.τ).loc Cert.ReferenceVOIdeal.main_arg0) = m ((c.tc : Thread Cert.ReferenceVOIdeal.nD Cert.ReferenceVOIdeal.τ).loc Cert.ReferenceVOIdeal.main_arg0)
      ∧ r.2.mem ((c.tc : Thread Cert.ReferenceVOIdeal.nD Cert.ReferenceVOIdeal.τ).loc Cert.ReferenceVOIdeal.main_arg1) = m ((c.tc : Thread Cert.ReferenceVOIdeal.nD Cert.ReferenceVOIdeal.τ).loc Cert.ReferenceVOIdeal.main_arg1))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1))
      ∧ r.2.sem = fun _ => 0)

def quiescent_KernelGateUp [hKernelGateUp : Cert.KernelGateUp.Facts] : Prop :=
  ∀ (m : (ℓ : Loc Cert.KernelGateUp.nD Cert.KernelGateUp.τ Cert.KernelGateUp.sig) → Buf (Elt Bits) ℓ) (g : Dev Cert.KernelGateUp.nD → PrngReg), Pre_KernelGateUp m →
    θ_run (Cert.KernelGateUp.defs (F := Bits)) (onTc (τ := Cert.KernelGateUp.τ) (Cert.KernelGateUp.main (F := Bits))) ⟨m, fun _ => 0, g⟩ (fun r => (∀ c : Dev Cert.KernelGateUp.nD,
      r.2.mem ((c.tc : Thread Cert.KernelGateUp.nD Cert.KernelGateUp.τ).loc Cert.KernelGateUp.main_arg0) = m ((c.tc : Thread Cert.KernelGateUp.nD Cert.KernelGateUp.τ).loc Cert.KernelGateUp.main_arg0)
      ∧ r.2.mem ((c.tc : Thread Cert.KernelGateUp.nD Cert.KernelGateUp.τ).loc Cert.KernelGateUp.main_arg1) = m ((c.tc : Thread Cert.KernelGateUp.nD Cert.KernelGateUp.τ).loc Cert.KernelGateUp.main_arg1)
      ∧ r.2.mem ((c.tc : Thread Cert.KernelGateUp.nD Cert.KernelGateUp.τ).loc Cert.KernelGateUp.main_arg2) = m ((c.tc : Thread Cert.KernelGateUp.nD Cert.KernelGateUp.τ).loc Cert.KernelGateUp.main_arg2))
      ∧ r.2.sem = fun _ => 0)

def quiescent_KernelGateUpIdeal [hKernelGateUpIdeal : Cert.KernelGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg), Pre_KernelGateUpIdeal m →
    θ_run (Cert.KernelGateUpIdeal.defs (F := Ideal)) (onTc (τ := Cert.KernelGateUpIdeal.τ) (Cert.KernelGateUpIdeal.main (F := Ideal))) ⟨m, fun _ => 0, g⟩ (fun r => (∀ c : Dev Cert.KernelGateUpIdeal.nD,
      r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
      ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
      ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ r.2.sem = fun _ => 0)

def quiescent_ReferenceGateUpIdeal [hReferenceGateUpIdeal : Cert.ReferenceGateUpIdeal.Facts] : Prop :=
  ∀ (m : (ℓ : Loc Cert.ReferenceGateUpIdeal.nD Cert.ReferenceGateUpIdeal.τ Cert.ReferenceGateUpIdeal.sig) → Buf (Elt Ideal) ℓ) (g : Dev Cert.ReferenceGateUpIdeal.nD → PrngReg), Pre_ReferenceGateUpIdeal m →
    θ_run (Cert.ReferenceGateUpIdeal.defs (F := Ideal)) (onTc (τ := Cert.ReferenceGateUpIdeal.τ) (Cert.ReferenceGateUpIdeal.main (F := Ideal))) ⟨m, fun _ => 0, g⟩ (fun r => (∀ c : Dev Cert.ReferenceGateUpIdeal.nD,
      r.2.mem ((c.tc : Thread Cert.ReferenceGateUpIdeal.nD Cert.ReferenceGateUpIdeal.τ).loc Cert.ReferenceGateUpIdeal.main_arg0) = m ((c.tc : Thread Cert.ReferenceGateUpIdeal.nD Cert.ReferenceGateUpIdeal.τ).loc Cert.ReferenceGateUpIdeal.main_arg0)
      ∧ r.2.mem ((c.tc : Thread Cert.ReferenceGateUpIdeal.nD Cert.ReferenceGateUpIdeal.τ).loc Cert.ReferenceGateUpIdeal.main_arg1) = m ((c.tc : Thread Cert.ReferenceGateUpIdeal.nD Cert.ReferenceGateUpIdeal.τ).loc Cert.ReferenceGateUpIdeal.main_arg1)
      ∧ r.2.mem ((c.tc : Thread Cert.ReferenceGateUpIdeal.nD Cert.ReferenceGateUpIdeal.τ).loc Cert.ReferenceGateUpIdeal.main_arg2) = m ((c.tc : Thread Cert.ReferenceGateUpIdeal.nD Cert.ReferenceGateUpIdeal.τ).loc Cert.ReferenceGateUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelNormH [hKernelNormH : Cert.KernelNormH.Facts] : Prop :=
  ∀ (m : (ℓ : Loc Cert.KernelNormH.nD Cert.KernelNormH.τ Cert.KernelNormH.sig) → Buf (Elt Bits) ℓ) (g : Dev Cert.KernelNormH.nD → PrngReg), Pre_KernelNormH m →
    θ_run (Cert.KernelNormH.defs (F := Bits)) (onTc (τ := Cert.KernelNormH.τ) (Cert.KernelNormH.main (F := Bits))) ⟨m, fun _ => 0, g⟩ (fun r => (∀ c : Dev Cert.KernelNormH.nD,
      r.2.mem ((c.tc : Thread Cert.KernelNormH.nD Cert.KernelNormH.τ).loc Cert.KernelNormH.main_arg0) = m ((c.tc : Thread Cert.KernelNormH.nD Cert.KernelNormH.τ).loc Cert.KernelNormH.main_arg0)
      ∧ r.2.mem ((c.tc : Thread Cert.KernelNormH.nD Cert.KernelNormH.τ).loc Cert.KernelNormH.main_arg1) = m ((c.tc : Thread Cert.KernelNormH.nD Cert.KernelNormH.τ).loc Cert.KernelNormH.main_arg1))
      ∧ r.2.sem = fun _ => 0)

def quiescent_KernelNormHIdeal [hKernelNormHIdeal : Cert.KernelNormHIdeal.Facts] : Prop :=
  ∀ (m : (ℓ : Loc Cert.KernelNormHIdeal.nD Cert.KernelNormHIdeal.τ Cert.KernelNormHIdeal.sig) → Buf (Elt Ideal) ℓ) (g : Dev Cert.KernelNormHIdeal.nD → PrngReg), Pre_KernelNormHIdeal m →
    θ_run (Cert.KernelNormHIdeal.defs (F := Ideal)) (onTc (τ := Cert.KernelNormHIdeal.τ) (Cert.KernelNormHIdeal.main (F := Ideal))) ⟨m, fun _ => 0, g⟩ (fun r => (∀ c : Dev Cert.KernelNormHIdeal.nD,
      r.2.mem ((c.tc : Thread Cert.KernelNormHIdeal.nD Cert.KernelNormHIdeal.τ).loc Cert.KernelNormHIdeal.main_arg0) = m ((c.tc : Thread Cert.KernelNormHIdeal.nD Cert.KernelNormHIdeal.τ).loc Cert.KernelNormHIdeal.main_arg0)
      ∧ r.2.mem ((c.tc : Thread Cert.KernelNormHIdeal.nD Cert.KernelNormHIdeal.τ).loc Cert.KernelNormHIdeal.main_arg1) = m ((c.tc : Thread Cert.KernelNormHIdeal.nD Cert.KernelNormHIdeal.τ).loc Cert.KernelNormHIdeal.main_arg1))
      ∧ r.2.sem = fun _ => 0)

def quiescent_ReferenceNormHIdeal [hReferenceNormHIdeal : Cert.ReferenceNormHIdeal.Facts] : Prop :=
  ∀ (m : (ℓ : Loc Cert.ReferenceNormHIdeal.nD Cert.ReferenceNormHIdeal.τ Cert.ReferenceNormHIdeal.sig) → Buf (Elt Ideal) ℓ) (g : Dev Cert.ReferenceNormHIdeal.nD → PrngReg), Pre_ReferenceNormHIdeal m →
    θ_run (Cert.ReferenceNormHIdeal.defs (F := Ideal)) (onTc (τ := Cert.ReferenceNormHIdeal.τ) (Cert.ReferenceNormHIdeal.main (F := Ideal))) ⟨m, fun _ => 0, g⟩ (fun r => (∀ c : Dev Cert.ReferenceNormHIdeal.nD,
      r.2.mem ((c.tc : Thread Cert.ReferenceNormHIdeal.nD Cert.ReferenceNormHIdeal.τ).loc Cert.ReferenceNormHIdeal.main_arg0) = m ((c.tc : Thread Cert.ReferenceNormHIdeal.nD Cert.ReferenceNormHIdeal.τ).loc Cert.ReferenceNormHIdeal.main_arg0)
      ∧ r.2.mem ((c.tc : Thread Cert.ReferenceNormHIdeal.nD Cert.ReferenceNormHIdeal.τ).loc Cert.ReferenceNormHIdeal.main_arg1) = m ((c.tc : Thread Cert.ReferenceNormHIdeal.nD Cert.ReferenceNormHIdeal.τ).loc Cert.ReferenceNormHIdeal.main_arg1))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelAttnV0 [hKernelAttnV0 : Cert.KernelAttnV0.Facts] : Prop :=
  ∀ (m : (ℓ : Loc Cert.KernelAttnV0.nD Cert.KernelAttnV0.τ Cert.KernelAttnV0.sig) → Buf (Elt Bits) ℓ) (g : Dev Cert.KernelAttnV0.nD → PrngReg), Pre_KernelAttnV0 m →
    θ_run (Cert.KernelAttnV0.defs (F := Bits)) (onTc (τ := Cert.KernelAttnV0.τ) (Cert.KernelAttnV0.main (F := Bits))) ⟨m, fun _ => 0, g⟩ (fun r => (∀ c : Dev Cert.KernelAttnV0.nD,
      r.2.mem ((c.tc : Thread Cert.KernelAttnV0.nD Cert.KernelAttnV0.τ).loc Cert.KernelAttnV0.main_arg0) = m ((c.tc : Thread Cert.KernelAttnV0.nD Cert.KernelAttnV0.τ).loc Cert.KernelAttnV0.main_arg0)
      ∧ r.2.mem ((c.tc : Thread Cert.KernelAttnV0.nD Cert.KernelAttnV0.τ).loc Cert.KernelAttnV0.main_arg1) = m ((c.tc : Thread Cert.KernelAttnV0.nD Cert.KernelAttnV0.τ).loc Cert.KernelAttnV0.main_arg1))
      ∧ r.2.sem = fun _ => 0)

def quiescent_KernelAttnV0Ideal [hKernelAttnV0Ideal : Cert.KernelAttnV0Ideal.Facts] : Prop :=
  ∀ (m : (ℓ : Loc Cert.KernelAttnV0Ideal.nD Cert.KernelAttnV0Ideal.τ Cert.KernelAttnV0Ideal.sig) → Buf (Elt Ideal) ℓ) (g : Dev Cert.KernelAttnV0Ideal.nD → PrngReg), Pre_KernelAttnV0Ideal m →
    θ_run (Cert.KernelAttnV0Ideal.defs (F := Ideal)) (onTc (τ := Cert.KernelAttnV0Ideal.τ) (Cert.KernelAttnV0Ideal.main (F := Ideal))) ⟨m, fun _ => 0, g⟩ (fun r => (∀ c : Dev Cert.KernelAttnV0Ideal.nD,
      r.2.mem ((c.tc : Thread Cert.KernelAttnV0Ideal.nD Cert.KernelAttnV0Ideal.τ).loc Cert.KernelAttnV0Ideal.main_arg0) = m ((c.tc : Thread Cert.KernelAttnV0Ideal.nD Cert.KernelAttnV0Ideal.τ).loc Cert.KernelAttnV0Ideal.main_arg0)
      ∧ r.2.mem ((c.tc : Thread Cert.KernelAttnV0Ideal.nD Cert.KernelAttnV0Ideal.τ).loc Cert.KernelAttnV0Ideal.main_arg1) = m ((c.tc : Thread Cert.KernelAttnV0Ideal.nD Cert.KernelAttnV0Ideal.τ).loc Cert.KernelAttnV0Ideal.main_arg1))
      ∧ r.2.sem = fun _ => 0)

def quiescent_ReferenceAttnV0Ideal [hReferenceAttnV0Ideal : Cert.ReferenceAttnV0Ideal.Facts] : Prop :=
  ∀ (m : (ℓ : Loc Cert.ReferenceAttnV0Ideal.nD Cert.ReferenceAttnV0Ideal.τ Cert.ReferenceAttnV0Ideal.sig) → Buf (Elt Ideal) ℓ) (g : Dev Cert.ReferenceAttnV0Ideal.nD → PrngReg), Pre_ReferenceAttnV0Ideal m →
    θ_run (Cert.ReferenceAttnV0Ideal.defs (F := Ideal)) (onTc (τ := Cert.ReferenceAttnV0Ideal.τ) (Cert.ReferenceAttnV0Ideal.main (F := Ideal))) ⟨m, fun _ => 0, g⟩ (fun r => (∀ c : Dev Cert.ReferenceAttnV0Ideal.nD,
      r.2.mem ((c.tc : Thread Cert.ReferenceAttnV0Ideal.nD Cert.ReferenceAttnV0Ideal.τ).loc Cert.ReferenceAttnV0Ideal.main_arg0) = m ((c.tc : Thread Cert.ReferenceAttnV0Ideal.nD Cert.ReferenceAttnV0Ideal.τ).loc Cert.ReferenceAttnV0Ideal.main_arg0)
      ∧ r.2.mem ((c.tc : Thread Cert.ReferenceAttnV0Ideal.nD Cert.ReferenceAttnV0Ideal.τ).loc Cert.ReferenceAttnV0Ideal.main_arg1) = m ((c.tc : Thread Cert.ReferenceAttnV0Ideal.nD Cert.ReferenceAttnV0Ideal.τ).loc Cert.ReferenceAttnV0Ideal.main_arg1))
      ∧ r.2.sem = fun _ => 0)

def quiescent_KernelAttnV1 [hKernelAttnV1 : Cert.KernelAttnV1.Facts] : Prop :=
  ∀ (m : (ℓ : Loc Cert.KernelAttnV1.nD Cert.KernelAttnV1.τ Cert.KernelAttnV1.sig) → Buf (Elt Bits) ℓ) (g : Dev Cert.KernelAttnV1.nD → PrngReg), Pre_KernelAttnV1 m →
    θ_run (Cert.KernelAttnV1.defs (F := Bits)) (onTc (τ := Cert.KernelAttnV1.τ) (Cert.KernelAttnV1.main (F := Bits))) ⟨m, fun _ => 0, g⟩ (fun r => (∀ c : Dev Cert.KernelAttnV1.nD,
      r.2.mem ((c.tc : Thread Cert.KernelAttnV1.nD Cert.KernelAttnV1.τ).loc Cert.KernelAttnV1.main_arg0) = m ((c.tc : Thread Cert.KernelAttnV1.nD Cert.KernelAttnV1.τ).loc Cert.KernelAttnV1.main_arg0)
      ∧ r.2.mem ((c.tc : Thread Cert.KernelAttnV1.nD Cert.KernelAttnV1.τ).loc Cert.KernelAttnV1.main_arg1) = m ((c.tc : Thread Cert.KernelAttnV1.nD Cert.KernelAttnV1.τ).loc Cert.KernelAttnV1.main_arg1))
      ∧ r.2.sem = fun _ => 0)

def quiescent_KernelAttnV1Ideal [hKernelAttnV1Ideal : Cert.KernelAttnV1Ideal.Facts] : Prop :=
  ∀ (m : (ℓ : Loc Cert.KernelAttnV1Ideal.nD Cert.KernelAttnV1Ideal.τ Cert.KernelAttnV1Ideal.sig) → Buf (Elt Ideal) ℓ) (g : Dev Cert.KernelAttnV1Ideal.nD → PrngReg), Pre_KernelAttnV1Ideal m →
    θ_run (Cert.KernelAttnV1Ideal.defs (F := Ideal)) (onTc (τ := Cert.KernelAttnV1Ideal.τ) (Cert.KernelAttnV1Ideal.main (F := Ideal))) ⟨m, fun _ => 0, g⟩ (fun r => (∀ c : Dev Cert.KernelAttnV1Ideal.nD,
      r.2.mem ((c.tc : Thread Cert.KernelAttnV1Ideal.nD Cert.KernelAttnV1Ideal.τ).loc Cert.KernelAttnV1Ideal.main_arg0) = m ((c.tc : Thread Cert.KernelAttnV1Ideal.nD Cert.KernelAttnV1Ideal.τ).loc Cert.KernelAttnV1Ideal.main_arg0)
      ∧ r.2.mem ((c.tc : Thread Cert.KernelAttnV1Ideal.nD Cert.KernelAttnV1Ideal.τ).loc Cert.KernelAttnV1Ideal.main_arg1) = m ((c.tc : Thread Cert.KernelAttnV1Ideal.nD Cert.KernelAttnV1Ideal.τ).loc Cert.KernelAttnV1Ideal.main_arg1))
      ∧ r.2.sem = fun _ => 0)

def quiescent_ReferenceAttnV1Ideal [hReferenceAttnV1Ideal : Cert.ReferenceAttnV1Ideal.Facts] : Prop :=
  ∀ (m : (ℓ : Loc Cert.ReferenceAttnV1Ideal.nD Cert.ReferenceAttnV1Ideal.τ Cert.ReferenceAttnV1Ideal.sig) → Buf (Elt Ideal) ℓ) (g : Dev Cert.ReferenceAttnV1Ideal.nD → PrngReg), Pre_ReferenceAttnV1Ideal m →
    θ_run (Cert.ReferenceAttnV1Ideal.defs (F := Ideal)) (onTc (τ := Cert.ReferenceAttnV1Ideal.τ) (Cert.ReferenceAttnV1Ideal.main (F := Ideal))) ⟨m, fun _ => 0, g⟩ (fun r => (∀ c : Dev Cert.ReferenceAttnV1Ideal.nD,
      r.2.mem ((c.tc : Thread Cert.ReferenceAttnV1Ideal.nD Cert.ReferenceAttnV1Ideal.τ).loc Cert.ReferenceAttnV1Ideal.main_arg0) = m ((c.tc : Thread Cert.ReferenceAttnV1Ideal.nD Cert.ReferenceAttnV1Ideal.τ).loc Cert.ReferenceAttnV1Ideal.main_arg0)
      ∧ r.2.mem ((c.tc : Thread Cert.ReferenceAttnV1Ideal.nD Cert.ReferenceAttnV1Ideal.τ).loc Cert.ReferenceAttnV1Ideal.main_arg1) = m ((c.tc : Thread Cert.ReferenceAttnV1Ideal.nD Cert.ReferenceAttnV1Ideal.τ).loc Cert.ReferenceAttnV1Ideal.main_arg1))
      ∧ r.2.sem = fun _ => 0)

def quiescent_KernelAttnV2 [hKernelAttnV2 : Cert.KernelAttnV2.Facts] : Prop :=
  ∀ (m : (ℓ : Loc Cert.KernelAttnV2.nD Cert.KernelAttnV2.τ Cert.KernelAttnV2.sig) → Buf (Elt Bits) ℓ) (g : Dev Cert.KernelAttnV2.nD → PrngReg), Pre_KernelAttnV2 m →
    θ_run (Cert.KernelAttnV2.defs (F := Bits)) (onTc (τ := Cert.KernelAttnV2.τ) (Cert.KernelAttnV2.main (F := Bits))) ⟨m, fun _ => 0, g⟩ (fun r => (∀ c : Dev Cert.KernelAttnV2.nD,
      r.2.mem ((c.tc : Thread Cert.KernelAttnV2.nD Cert.KernelAttnV2.τ).loc Cert.KernelAttnV2.main_arg0) = m ((c.tc : Thread Cert.KernelAttnV2.nD Cert.KernelAttnV2.τ).loc Cert.KernelAttnV2.main_arg0)
      ∧ r.2.mem ((c.tc : Thread Cert.KernelAttnV2.nD Cert.KernelAttnV2.τ).loc Cert.KernelAttnV2.main_arg1) = m ((c.tc : Thread Cert.KernelAttnV2.nD Cert.KernelAttnV2.τ).loc Cert.KernelAttnV2.main_arg1))
      ∧ r.2.sem = fun _ => 0)

def quiescent_KernelAttnV2Ideal [hKernelAttnV2Ideal : Cert.KernelAttnV2Ideal.Facts] : Prop :=
  ∀ (m : (ℓ : Loc Cert.KernelAttnV2Ideal.nD Cert.KernelAttnV2Ideal.τ Cert.KernelAttnV2Ideal.sig) → Buf (Elt Ideal) ℓ) (g : Dev Cert.KernelAttnV2Ideal.nD → PrngReg), Pre_KernelAttnV2Ideal m →
    θ_run (Cert.KernelAttnV2Ideal.defs (F := Ideal)) (onTc (τ := Cert.KernelAttnV2Ideal.τ) (Cert.KernelAttnV2Ideal.main (F := Ideal))) ⟨m, fun _ => 0, g⟩ (fun r => (∀ c : Dev Cert.KernelAttnV2Ideal.nD,
      r.2.mem ((c.tc : Thread Cert.KernelAttnV2Ideal.nD Cert.KernelAttnV2Ideal.τ).loc Cert.KernelAttnV2Ideal.main_arg0) = m ((c.tc : Thread Cert.KernelAttnV2Ideal.nD Cert.KernelAttnV2Ideal.τ).loc Cert.KernelAttnV2Ideal.main_arg0)
      ∧ r.2.mem ((c.tc : Thread Cert.KernelAttnV2Ideal.nD Cert.KernelAttnV2Ideal.τ).loc Cert.KernelAttnV2Ideal.main_arg1) = m ((c.tc : Thread Cert.KernelAttnV2Ideal.nD Cert.KernelAttnV2Ideal.τ).loc Cert.KernelAttnV2Ideal.main_arg1))
      ∧ r.2.sem = fun _ => 0)

def quiescent_ReferenceAttnV2Ideal [hReferenceAttnV2Ideal : Cert.ReferenceAttnV2Ideal.Facts] : Prop :=
  ∀ (m : (ℓ : Loc Cert.ReferenceAttnV2Ideal.nD Cert.ReferenceAttnV2Ideal.τ Cert.ReferenceAttnV2Ideal.sig) → Buf (Elt Ideal) ℓ) (g : Dev Cert.ReferenceAttnV2Ideal.nD → PrngReg), Pre_ReferenceAttnV2Ideal m →
    θ_run (Cert.ReferenceAttnV2Ideal.defs (F := Ideal)) (onTc (τ := Cert.ReferenceAttnV2Ideal.τ) (Cert.ReferenceAttnV2Ideal.main (F := Ideal))) ⟨m, fun _ => 0, g⟩ (fun r => (∀ c : Dev Cert.ReferenceAttnV2Ideal.nD,
      r.2.mem ((c.tc : Thread Cert.ReferenceAttnV2Ideal.nD Cert.ReferenceAttnV2Ideal.τ).loc Cert.ReferenceAttnV2Ideal.main_arg0) = m ((c.tc : Thread Cert.ReferenceAttnV2Ideal.nD Cert.ReferenceAttnV2Ideal.τ).loc Cert.ReferenceAttnV2Ideal.main_arg0)
      ∧ r.2.mem ((c.tc : Thread Cert.ReferenceAttnV2Ideal.nD Cert.ReferenceAttnV2Ideal.τ).loc Cert.ReferenceAttnV2Ideal.main_arg1) = m ((c.tc : Thread Cert.ReferenceAttnV2Ideal.nD Cert.ReferenceAttnV2Ideal.τ).loc Cert.ReferenceAttnV2Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelQK_KernelQKIdeal : Prop :=
  True

def algebraic_KernelQKIdeal_ReferenceQKIdeal [hKernelQKIdeal : Cert.KernelQKIdeal.Facts] [hReferenceQKIdeal : Cert.ReferenceQKIdeal.Facts] : Prop :=
  ∀ (m : (ℓ : Loc Cert.KernelQKIdeal.nD Cert.KernelQKIdeal.τ Cert.KernelQKIdeal.sig) → Buf (Elt Ideal) ℓ) (g : Dev Cert.KernelQKIdeal.nD → PrngReg)
    (m' : (ℓ : Loc Cert.ReferenceQKIdeal.nD Cert.ReferenceQKIdeal.τ Cert.ReferenceQKIdeal.sig) → Buf (Elt Ideal) ℓ) (g' : Dev Cert.ReferenceQKIdeal.nD → PrngReg), Pre_KernelQKIdeal m →
    (∀ c : Dev Cert.KernelQKIdeal.nD,
      m' ((c.tc : Thread Cert.ReferenceQKIdeal.nD Cert.ReferenceQKIdeal.τ).loc Cert.ReferenceQKIdeal.main_arg0) = m ((c.tc : Thread Cert.KernelQKIdeal.nD Cert.KernelQKIdeal.τ).loc Cert.KernelQKIdeal.main_arg0)
      ∧ m' ((c.tc : Thread Cert.ReferenceQKIdeal.nD Cert.ReferenceQKIdeal.τ).loc Cert.ReferenceQKIdeal.main_arg1) = m ((c.tc : Thread Cert.KernelQKIdeal.nD Cert.KernelQKIdeal.τ).loc Cert.KernelQKIdeal.main_arg1)) →
    ∃ (v0 : (c : Dev Cert.KernelQKIdeal.nD) → Buf (Elt Ideal) ((c.tc : Thread Cert.KernelQKIdeal.nD Cert.KernelQKIdeal.τ).loc Cert.KernelQKIdeal.main_v3)),
      θ_run (Cert.KernelQKIdeal.defs (F := Ideal)) (onTc (τ := Cert.KernelQKIdeal.τ) (Cert.KernelQKIdeal.main (F := Ideal))) ⟨m, fun _ => 0, g⟩ (fun r => ∀ c : Dev Cert.KernelQKIdeal.nD,
          r.2.mem ((c.tc : Thread Cert.KernelQKIdeal.nD Cert.KernelQKIdeal.τ).loc Cert.KernelQKIdeal.main_v3) = v0 c
          ∧ r.2.mem ((c.tc : Thread Cert.KernelQKIdeal.nD Cert.KernelQKIdeal.τ).loc Cert.KernelQKIdeal.main_arg0) = m ((c.tc : Thread Cert.KernelQKIdeal.nD Cert.KernelQKIdeal.τ).loc Cert.KernelQKIdeal.main_arg0)
          ∧ r.2.mem ((c.tc : Thread Cert.KernelQKIdeal.nD Cert.KernelQKIdeal.τ).loc Cert.KernelQKIdeal.main_arg1) = m ((c.tc : Thread Cert.KernelQKIdeal.nD Cert.KernelQKIdeal.τ).loc Cert.KernelQKIdeal.main_arg1))
      ∧ θ_run (Cert.ReferenceQKIdeal.defs (F := Ideal)) (onTc (τ := Cert.ReferenceQKIdeal.τ) (Cert.ReferenceQKIdeal.main (F := Ideal))) ⟨m', fun _ => 0, g'⟩ (fun r => ∀ c : Dev Cert.ReferenceQKIdeal.nD,
          r.2.mem ((c.tc : Thread Cert.ReferenceQKIdeal.nD Cert.ReferenceQKIdeal.τ).loc Cert.ReferenceQKIdeal.main_v4) = v0 c
          ∧ r.2.mem ((c.tc : Thread Cert.ReferenceQKIdeal.nD Cert.ReferenceQKIdeal.τ).loc Cert.ReferenceQKIdeal.main_arg0) = m' ((c.tc : Thread Cert.ReferenceQKIdeal.nD Cert.ReferenceQKIdeal.τ).loc Cert.ReferenceQKIdeal.main_arg0)
          ∧ r.2.mem ((c.tc : Thread Cert.ReferenceQKIdeal.nD Cert.ReferenceQKIdeal.τ).loc Cert.ReferenceQKIdeal.main_arg1) = m' ((c.tc : Thread Cert.ReferenceQKIdeal.nD Cert.ReferenceQKIdeal.τ).loc Cert.ReferenceQKIdeal.main_arg1))

def preserves_KernelVO_KernelVOIdeal : Prop :=
  True

def algebraic_KernelVOIdeal_ReferenceVOIdeal [hKernelVOIdeal : Cert.KernelVOIdeal.Facts] [hReferenceVOIdeal : Cert.ReferenceVOIdeal.Facts] : Prop :=
  ∀ (m : (ℓ : Loc Cert.KernelVOIdeal.nD Cert.KernelVOIdeal.τ Cert.KernelVOIdeal.sig) → Buf (Elt Ideal) ℓ) (g : Dev Cert.KernelVOIdeal.nD → PrngReg)
    (m' : (ℓ : Loc Cert.ReferenceVOIdeal.nD Cert.ReferenceVOIdeal.τ Cert.ReferenceVOIdeal.sig) → Buf (Elt Ideal) ℓ) (g' : Dev Cert.ReferenceVOIdeal.nD → PrngReg), Pre_KernelVOIdeal m →
    (∀ c : Dev Cert.KernelVOIdeal.nD,
      m' ((c.tc : Thread Cert.ReferenceVOIdeal.nD Cert.ReferenceVOIdeal.τ).loc Cert.ReferenceVOIdeal.main_arg0) = m ((c.tc : Thread Cert.KernelVOIdeal.nD Cert.KernelVOIdeal.τ).loc Cert.KernelVOIdeal.main_arg0)
      ∧ m' ((c.tc : Thread Cert.ReferenceVOIdeal.nD Cert.ReferenceVOIdeal.τ).loc Cert.ReferenceVOIdeal.main_arg1) = m ((c.tc : Thread Cert.KernelVOIdeal.nD Cert.KernelVOIdeal.τ).loc Cert.KernelVOIdeal.main_arg1)) →
    ∃ (v0 : (c : Dev Cert.KernelVOIdeal.nD) → Buf (Elt Ideal) ((c.tc : Thread Cert.KernelVOIdeal.nD Cert.KernelVOIdeal.τ).loc Cert.KernelVOIdeal.main_v3)),
      θ_run (Cert.KernelVOIdeal.defs (F := Ideal)) (onTc (τ := Cert.KernelVOIdeal.τ) (Cert.KernelVOIdeal.main (F := Ideal))) ⟨m, fun _ => 0, g⟩ (fun r => ∀ c : Dev Cert.KernelVOIdeal.nD,
          r.2.mem ((c.tc : Thread Cert.KernelVOIdeal.nD Cert.KernelVOIdeal.τ).loc Cert.KernelVOIdeal.main_v3) = v0 c
          ∧ r.2.mem ((c.tc : Thread Cert.KernelVOIdeal.nD Cert.KernelVOIdeal.τ).loc Cert.KernelVOIdeal.main_arg0) = m ((c.tc : Thread Cert.KernelVOIdeal.nD Cert.KernelVOIdeal.τ).loc Cert.KernelVOIdeal.main_arg0)
          ∧ r.2.mem ((c.tc : Thread Cert.KernelVOIdeal.nD Cert.KernelVOIdeal.τ).loc Cert.KernelVOIdeal.main_arg1) = m ((c.tc : Thread Cert.KernelVOIdeal.nD Cert.KernelVOIdeal.τ).loc Cert.KernelVOIdeal.main_arg1))
      ∧ θ_run (Cert.ReferenceVOIdeal.defs (F := Ideal)) (onTc (τ := Cert.ReferenceVOIdeal.τ) (Cert.ReferenceVOIdeal.main (F := Ideal))) ⟨m', fun _ => 0, g'⟩ (fun r => ∀ c : Dev Cert.ReferenceVOIdeal.nD,
          r.2.mem ((c.tc : Thread Cert.ReferenceVOIdeal.nD Cert.ReferenceVOIdeal.τ).loc Cert.ReferenceVOIdeal.main_v4) = v0 c
          ∧ r.2.mem ((c.tc : Thread Cert.ReferenceVOIdeal.nD Cert.ReferenceVOIdeal.τ).loc Cert.ReferenceVOIdeal.main_arg0) = m' ((c.tc : Thread Cert.ReferenceVOIdeal.nD Cert.ReferenceVOIdeal.τ).loc Cert.ReferenceVOIdeal.main_arg0)
          ∧ r.2.mem ((c.tc : Thread Cert.ReferenceVOIdeal.nD Cert.ReferenceVOIdeal.τ).loc Cert.ReferenceVOIdeal.main_arg1) = m' ((c.tc : Thread Cert.ReferenceVOIdeal.nD Cert.ReferenceVOIdeal.τ).loc Cert.ReferenceVOIdeal.main_arg1))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)) →
    ∃ (v0 : (c : Dev Cert.KernelGatesIdeal.nD) → Buf (Elt Ideal) ((c.tc : Thread Cert.KernelGatesIdeal.nD Cert.KernelGatesIdeal.τ).loc Cert.KernelGatesIdeal.main_v4)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v4) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v4) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1))

def preserves_KernelGateUp_KernelGateUpIdeal : Prop :=
  True

def algebraic_KernelGateUpIdeal_ReferenceGateUpIdeal [hKernelGateUpIdeal : Cert.KernelGateUpIdeal.Facts] [hReferenceGateUpIdeal : Cert.ReferenceGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg)
    (m' : (ℓ : Loc Cert.ReferenceGateUpIdeal.nD Cert.ReferenceGateUpIdeal.τ Cert.ReferenceGateUpIdeal.sig) → Buf (Elt Ideal) ℓ) (g' : Dev Cert.ReferenceGateUpIdeal.nD → PrngReg), Pre_KernelGateUpIdeal m →
    (∀ c : Dev Cert.KernelGateUpIdeal.nD,
      m' ((c.tc : Thread Cert.ReferenceGateUpIdeal.nD Cert.ReferenceGateUpIdeal.τ).loc Cert.ReferenceGateUpIdeal.main_arg0) = m ((c.tc : Thread Cert.KernelGateUpIdeal.nD Cert.KernelGateUpIdeal.τ).loc Cert.KernelGateUpIdeal.main_arg0)
      ∧ m' ((c.tc : Thread Cert.ReferenceGateUpIdeal.nD Cert.ReferenceGateUpIdeal.τ).loc Cert.ReferenceGateUpIdeal.main_arg1) = m ((c.tc : Thread Cert.KernelGateUpIdeal.nD Cert.KernelGateUpIdeal.τ).loc Cert.KernelGateUpIdeal.main_arg1)
      ∧ m' ((c.tc : Thread Cert.ReferenceGateUpIdeal.nD Cert.ReferenceGateUpIdeal.τ).loc Cert.ReferenceGateUpIdeal.main_arg2) = m ((c.tc : Thread Cert.KernelGateUpIdeal.nD Cert.KernelGateUpIdeal.τ).loc Cert.KernelGateUpIdeal.main_arg2)) →
    ∃ (v0 : (c : Dev Cert.KernelGateUpIdeal.nD) → Buf (Elt Ideal) ((c.tc : Thread Cert.KernelGateUpIdeal.nD Cert.KernelGateUpIdeal.τ).loc Cert.KernelGateUpIdeal.main_v2)),
      θ_run (Cert.KernelGateUpIdeal.defs (F := Ideal)) (onTc (τ := Cert.KernelGateUpIdeal.τ) (Cert.KernelGateUpIdeal.main (F := Ideal))) ⟨m, fun _ => 0, g⟩ (fun r => ∀ c : Dev Cert.KernelGateUpIdeal.nD,
          r.2.mem ((c.tc : Thread Cert.KernelGateUpIdeal.nD Cert.KernelGateUpIdeal.τ).loc Cert.KernelGateUpIdeal.main_v2) = v0 c
          ∧ r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
          ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
          ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ θ_run (Cert.ReferenceGateUpIdeal.defs (F := Ideal)) (onTc (τ := Cert.ReferenceGateUpIdeal.τ) (Cert.ReferenceGateUpIdeal.main (F := Ideal))) ⟨m', fun _ => 0, g'⟩ (fun r => ∀ c : Dev Cert.ReferenceGateUpIdeal.nD,
          r.2.mem ((c.tc : Thread Cert.ReferenceGateUpIdeal.nD Cert.ReferenceGateUpIdeal.τ).loc Cert.ReferenceGateUpIdeal.main_v7) = v0 c
          ∧ r.2.mem ((c.tc : Thread Cert.ReferenceGateUpIdeal.nD Cert.ReferenceGateUpIdeal.τ).loc Cert.ReferenceGateUpIdeal.main_arg0) = m' ((c.tc : Thread Cert.ReferenceGateUpIdeal.nD Cert.ReferenceGateUpIdeal.τ).loc Cert.ReferenceGateUpIdeal.main_arg0)
          ∧ r.2.mem ((c.tc : Thread Cert.ReferenceGateUpIdeal.nD Cert.ReferenceGateUpIdeal.τ).loc Cert.ReferenceGateUpIdeal.main_arg1) = m' ((c.tc : Thread Cert.ReferenceGateUpIdeal.nD Cert.ReferenceGateUpIdeal.τ).loc Cert.ReferenceGateUpIdeal.main_arg1)
          ∧ r.2.mem ((c.tc : Thread Cert.ReferenceGateUpIdeal.nD Cert.ReferenceGateUpIdeal.τ).loc Cert.ReferenceGateUpIdeal.main_arg2) = m' ((c.tc : Thread Cert.ReferenceGateUpIdeal.nD Cert.ReferenceGateUpIdeal.τ).loc Cert.ReferenceGateUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)) →
    ∃ (v0 : (c : Dev Cert.KernelMergeIdeal.nD) → Buf (Elt Ideal) ((c.tc : Thread Cert.KernelMergeIdeal.nD Cert.KernelMergeIdeal.τ).loc Cert.KernelMergeIdeal.main_v4)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v4) = v0 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v13) = v0 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v12) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelNormH_KernelNormHIdeal : Prop :=
  True

def algebraic_KernelNormHIdeal_ReferenceNormHIdeal [hKernelNormHIdeal : Cert.KernelNormHIdeal.Facts] [hReferenceNormHIdeal : Cert.ReferenceNormHIdeal.Facts] : Prop :=
  ∀ (m : (ℓ : Loc Cert.KernelNormHIdeal.nD Cert.KernelNormHIdeal.τ Cert.KernelNormHIdeal.sig) → Buf (Elt Ideal) ℓ) (g : Dev Cert.KernelNormHIdeal.nD → PrngReg)
    (m' : (ℓ : Loc Cert.ReferenceNormHIdeal.nD Cert.ReferenceNormHIdeal.τ Cert.ReferenceNormHIdeal.sig) → Buf (Elt Ideal) ℓ) (g' : Dev Cert.ReferenceNormHIdeal.nD → PrngReg), Pre_KernelNormHIdeal m →
    (∀ c : Dev Cert.KernelNormHIdeal.nD,
      m' ((c.tc : Thread Cert.ReferenceNormHIdeal.nD Cert.ReferenceNormHIdeal.τ).loc Cert.ReferenceNormHIdeal.main_arg0) = m ((c.tc : Thread Cert.KernelNormHIdeal.nD Cert.KernelNormHIdeal.τ).loc Cert.KernelNormHIdeal.main_arg0)
      ∧ m' ((c.tc : Thread Cert.ReferenceNormHIdeal.nD Cert.ReferenceNormHIdeal.τ).loc Cert.ReferenceNormHIdeal.main_arg1) = m ((c.tc : Thread Cert.KernelNormHIdeal.nD Cert.KernelNormHIdeal.τ).loc Cert.KernelNormHIdeal.main_arg1)) →
    ∃ (v0 : (c : Dev Cert.KernelNormHIdeal.nD) → Buf (Elt Ideal) ((c.tc : Thread Cert.KernelNormHIdeal.nD Cert.KernelNormHIdeal.τ).loc Cert.KernelNormHIdeal.main_v2)),
      θ_run (Cert.KernelNormHIdeal.defs (F := Ideal)) (onTc (τ := Cert.KernelNormHIdeal.τ) (Cert.KernelNormHIdeal.main (F := Ideal))) ⟨m, fun _ => 0, g⟩ (fun r => ∀ c : Dev Cert.KernelNormHIdeal.nD,
          r.2.mem ((c.tc : Thread Cert.KernelNormHIdeal.nD Cert.KernelNormHIdeal.τ).loc Cert.KernelNormHIdeal.main_v2) = v0 c
          ∧ r.2.mem ((c.tc : Thread Cert.KernelNormHIdeal.nD Cert.KernelNormHIdeal.τ).loc Cert.KernelNormHIdeal.main_arg0) = m ((c.tc : Thread Cert.KernelNormHIdeal.nD Cert.KernelNormHIdeal.τ).loc Cert.KernelNormHIdeal.main_arg0)
          ∧ r.2.mem ((c.tc : Thread Cert.KernelNormHIdeal.nD Cert.KernelNormHIdeal.τ).loc Cert.KernelNormHIdeal.main_arg1) = m ((c.tc : Thread Cert.KernelNormHIdeal.nD Cert.KernelNormHIdeal.τ).loc Cert.KernelNormHIdeal.main_arg1))
      ∧ θ_run (Cert.ReferenceNormHIdeal.defs (F := Ideal)) (onTc (τ := Cert.ReferenceNormHIdeal.τ) (Cert.ReferenceNormHIdeal.main (F := Ideal))) ⟨m', fun _ => 0, g'⟩ (fun r => ∀ c : Dev Cert.ReferenceNormHIdeal.nD,
          r.2.mem ((c.tc : Thread Cert.ReferenceNormHIdeal.nD Cert.ReferenceNormHIdeal.τ).loc Cert.ReferenceNormHIdeal.main_v14) = v0 c
          ∧ r.2.mem ((c.tc : Thread Cert.ReferenceNormHIdeal.nD Cert.ReferenceNormHIdeal.τ).loc Cert.ReferenceNormHIdeal.main_arg0) = m' ((c.tc : Thread Cert.ReferenceNormHIdeal.nD Cert.ReferenceNormHIdeal.τ).loc Cert.ReferenceNormHIdeal.main_arg0)
          ∧ r.2.mem ((c.tc : Thread Cert.ReferenceNormHIdeal.nD Cert.ReferenceNormHIdeal.τ).loc Cert.ReferenceNormHIdeal.main_arg1) = m' ((c.tc : Thread Cert.ReferenceNormHIdeal.nD Cert.ReferenceNormHIdeal.τ).loc Cert.ReferenceNormHIdeal.main_arg1))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)) →
    ∃ (v0 : (c : Dev Cert.KernelPostIdeal.nD) → Buf (Elt Ideal) ((c.tc : Thread Cert.KernelPostIdeal.nD Cert.KernelPostIdeal.τ).loc Cert.KernelPostIdeal.main_v2)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v2) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v35) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v8)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v8) = v0 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v49) = v0 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelAttnV0_KernelAttnV0Ideal : Prop :=
  True

def algebraic_KernelAttnV0Ideal_ReferenceAttnV0Ideal [hKernelAttnV0Ideal : Cert.KernelAttnV0Ideal.Facts] [hReferenceAttnV0Ideal : Cert.ReferenceAttnV0Ideal.Facts] : Prop :=
  ∀ (m : (ℓ : Loc Cert.KernelAttnV0Ideal.nD Cert.KernelAttnV0Ideal.τ Cert.KernelAttnV0Ideal.sig) → Buf (Elt Ideal) ℓ) (g : Dev Cert.KernelAttnV0Ideal.nD → PrngReg)
    (m' : (ℓ : Loc Cert.ReferenceAttnV0Ideal.nD Cert.ReferenceAttnV0Ideal.τ Cert.ReferenceAttnV0Ideal.sig) → Buf (Elt Ideal) ℓ) (g' : Dev Cert.ReferenceAttnV0Ideal.nD → PrngReg), Pre_KernelAttnV0Ideal m →
    (∀ c : Dev Cert.KernelAttnV0Ideal.nD,
      m' ((c.tc : Thread Cert.ReferenceAttnV0Ideal.nD Cert.ReferenceAttnV0Ideal.τ).loc Cert.ReferenceAttnV0Ideal.main_arg0) = m ((c.tc : Thread Cert.KernelAttnV0Ideal.nD Cert.KernelAttnV0Ideal.τ).loc Cert.KernelAttnV0Ideal.main_arg0)
      ∧ m' ((c.tc : Thread Cert.ReferenceAttnV0Ideal.nD Cert.ReferenceAttnV0Ideal.τ).loc Cert.ReferenceAttnV0Ideal.main_arg1) = m ((c.tc : Thread Cert.KernelAttnV0Ideal.nD Cert.KernelAttnV0Ideal.τ).loc Cert.KernelAttnV0Ideal.main_arg1)) →
    ∃ (v0 : (c : Dev Cert.KernelAttnV0Ideal.nD) → Buf (Elt Ideal) ((c.tc : Thread Cert.KernelAttnV0Ideal.nD Cert.KernelAttnV0Ideal.τ).loc Cert.KernelAttnV0Ideal.main_v3)),
      θ_run (Cert.KernelAttnV0Ideal.defs (F := Ideal)) (onTc (τ := Cert.KernelAttnV0Ideal.τ) (Cert.KernelAttnV0Ideal.main (F := Ideal))) ⟨m, fun _ => 0, g⟩ (fun r => ∀ c : Dev Cert.KernelAttnV0Ideal.nD,
          r.2.mem ((c.tc : Thread Cert.KernelAttnV0Ideal.nD Cert.KernelAttnV0Ideal.τ).loc Cert.KernelAttnV0Ideal.main_v3) = v0 c
          ∧ r.2.mem ((c.tc : Thread Cert.KernelAttnV0Ideal.nD Cert.KernelAttnV0Ideal.τ).loc Cert.KernelAttnV0Ideal.main_arg0) = m ((c.tc : Thread Cert.KernelAttnV0Ideal.nD Cert.KernelAttnV0Ideal.τ).loc Cert.KernelAttnV0Ideal.main_arg0)
          ∧ r.2.mem ((c.tc : Thread Cert.KernelAttnV0Ideal.nD Cert.KernelAttnV0Ideal.τ).loc Cert.KernelAttnV0Ideal.main_arg1) = m ((c.tc : Thread Cert.KernelAttnV0Ideal.nD Cert.KernelAttnV0Ideal.τ).loc Cert.KernelAttnV0Ideal.main_arg1))
      ∧ θ_run (Cert.ReferenceAttnV0Ideal.defs (F := Ideal)) (onTc (τ := Cert.ReferenceAttnV0Ideal.τ) (Cert.ReferenceAttnV0Ideal.main (F := Ideal))) ⟨m', fun _ => 0, g'⟩ (fun r => ∀ c : Dev Cert.ReferenceAttnV0Ideal.nD,
          r.2.mem ((c.tc : Thread Cert.ReferenceAttnV0Ideal.nD Cert.ReferenceAttnV0Ideal.τ).loc Cert.ReferenceAttnV0Ideal.main_v7) = v0 c
          ∧ r.2.mem ((c.tc : Thread Cert.ReferenceAttnV0Ideal.nD Cert.ReferenceAttnV0Ideal.τ).loc Cert.ReferenceAttnV0Ideal.main_arg0) = m' ((c.tc : Thread Cert.ReferenceAttnV0Ideal.nD Cert.ReferenceAttnV0Ideal.τ).loc Cert.ReferenceAttnV0Ideal.main_arg0)
          ∧ r.2.mem ((c.tc : Thread Cert.ReferenceAttnV0Ideal.nD Cert.ReferenceAttnV0Ideal.τ).loc Cert.ReferenceAttnV0Ideal.main_arg1) = m' ((c.tc : Thread Cert.ReferenceAttnV0Ideal.nD Cert.ReferenceAttnV0Ideal.τ).loc Cert.ReferenceAttnV0Ideal.main_arg1))

def preserves_KernelAttnV1_KernelAttnV1Ideal : Prop :=
  True

def algebraic_KernelAttnV1Ideal_ReferenceAttnV1Ideal [hKernelAttnV1Ideal : Cert.KernelAttnV1Ideal.Facts] [hReferenceAttnV1Ideal : Cert.ReferenceAttnV1Ideal.Facts] : Prop :=
  ∀ (m : (ℓ : Loc Cert.KernelAttnV1Ideal.nD Cert.KernelAttnV1Ideal.τ Cert.KernelAttnV1Ideal.sig) → Buf (Elt Ideal) ℓ) (g : Dev Cert.KernelAttnV1Ideal.nD → PrngReg)
    (m' : (ℓ : Loc Cert.ReferenceAttnV1Ideal.nD Cert.ReferenceAttnV1Ideal.τ Cert.ReferenceAttnV1Ideal.sig) → Buf (Elt Ideal) ℓ) (g' : Dev Cert.ReferenceAttnV1Ideal.nD → PrngReg), Pre_KernelAttnV1Ideal m →
    (∀ c : Dev Cert.KernelAttnV1Ideal.nD,
      m' ((c.tc : Thread Cert.ReferenceAttnV1Ideal.nD Cert.ReferenceAttnV1Ideal.τ).loc Cert.ReferenceAttnV1Ideal.main_arg0) = m ((c.tc : Thread Cert.KernelAttnV1Ideal.nD Cert.KernelAttnV1Ideal.τ).loc Cert.KernelAttnV1Ideal.main_arg0)
      ∧ m' ((c.tc : Thread Cert.ReferenceAttnV1Ideal.nD Cert.ReferenceAttnV1Ideal.τ).loc Cert.ReferenceAttnV1Ideal.main_arg1) = m ((c.tc : Thread Cert.KernelAttnV1Ideal.nD Cert.KernelAttnV1Ideal.τ).loc Cert.KernelAttnV1Ideal.main_arg1)) →
    ∃ (v0 : (c : Dev Cert.KernelAttnV1Ideal.nD) → Buf (Elt Ideal) ((c.tc : Thread Cert.KernelAttnV1Ideal.nD Cert.KernelAttnV1Ideal.τ).loc Cert.KernelAttnV1Ideal.main_v3)),
      θ_run (Cert.KernelAttnV1Ideal.defs (F := Ideal)) (onTc (τ := Cert.KernelAttnV1Ideal.τ) (Cert.KernelAttnV1Ideal.main (F := Ideal))) ⟨m, fun _ => 0, g⟩ (fun r => ∀ c : Dev Cert.KernelAttnV1Ideal.nD,
          r.2.mem ((c.tc : Thread Cert.KernelAttnV1Ideal.nD Cert.KernelAttnV1Ideal.τ).loc Cert.KernelAttnV1Ideal.main_v3) = v0 c
          ∧ r.2.mem ((c.tc : Thread Cert.KernelAttnV1Ideal.nD Cert.KernelAttnV1Ideal.τ).loc Cert.KernelAttnV1Ideal.main_arg0) = m ((c.tc : Thread Cert.KernelAttnV1Ideal.nD Cert.KernelAttnV1Ideal.τ).loc Cert.KernelAttnV1Ideal.main_arg0)
          ∧ r.2.mem ((c.tc : Thread Cert.KernelAttnV1Ideal.nD Cert.KernelAttnV1Ideal.τ).loc Cert.KernelAttnV1Ideal.main_arg1) = m ((c.tc : Thread Cert.KernelAttnV1Ideal.nD Cert.KernelAttnV1Ideal.τ).loc Cert.KernelAttnV1Ideal.main_arg1))
      ∧ θ_run (Cert.ReferenceAttnV1Ideal.defs (F := Ideal)) (onTc (τ := Cert.ReferenceAttnV1Ideal.τ) (Cert.ReferenceAttnV1Ideal.main (F := Ideal))) ⟨m', fun _ => 0, g'⟩ (fun r => ∀ c : Dev Cert.ReferenceAttnV1Ideal.nD,
          r.2.mem ((c.tc : Thread Cert.ReferenceAttnV1Ideal.nD Cert.ReferenceAttnV1Ideal.τ).loc Cert.ReferenceAttnV1Ideal.main_v7) = v0 c
          ∧ r.2.mem ((c.tc : Thread Cert.ReferenceAttnV1Ideal.nD Cert.ReferenceAttnV1Ideal.τ).loc Cert.ReferenceAttnV1Ideal.main_arg0) = m' ((c.tc : Thread Cert.ReferenceAttnV1Ideal.nD Cert.ReferenceAttnV1Ideal.τ).loc Cert.ReferenceAttnV1Ideal.main_arg0)
          ∧ r.2.mem ((c.tc : Thread Cert.ReferenceAttnV1Ideal.nD Cert.ReferenceAttnV1Ideal.τ).loc Cert.ReferenceAttnV1Ideal.main_arg1) = m' ((c.tc : Thread Cert.ReferenceAttnV1Ideal.nD Cert.ReferenceAttnV1Ideal.τ).loc Cert.ReferenceAttnV1Ideal.main_arg1))

def preserves_KernelAttnV2_KernelAttnV2Ideal : Prop :=
  True

def algebraic_KernelAttnV2Ideal_ReferenceAttnV2Ideal [hKernelAttnV2Ideal : Cert.KernelAttnV2Ideal.Facts] [hReferenceAttnV2Ideal : Cert.ReferenceAttnV2Ideal.Facts] : Prop :=
  ∀ (m : (ℓ : Loc Cert.KernelAttnV2Ideal.nD Cert.KernelAttnV2Ideal.τ Cert.KernelAttnV2Ideal.sig) → Buf (Elt Ideal) ℓ) (g : Dev Cert.KernelAttnV2Ideal.nD → PrngReg)
    (m' : (ℓ : Loc Cert.ReferenceAttnV2Ideal.nD Cert.ReferenceAttnV2Ideal.τ Cert.ReferenceAttnV2Ideal.sig) → Buf (Elt Ideal) ℓ) (g' : Dev Cert.ReferenceAttnV2Ideal.nD → PrngReg), Pre_KernelAttnV2Ideal m →
    (∀ c : Dev Cert.KernelAttnV2Ideal.nD,
      m' ((c.tc : Thread Cert.ReferenceAttnV2Ideal.nD Cert.ReferenceAttnV2Ideal.τ).loc Cert.ReferenceAttnV2Ideal.main_arg0) = m ((c.tc : Thread Cert.KernelAttnV2Ideal.nD Cert.KernelAttnV2Ideal.τ).loc Cert.KernelAttnV2Ideal.main_arg0)
      ∧ m' ((c.tc : Thread Cert.ReferenceAttnV2Ideal.nD Cert.ReferenceAttnV2Ideal.τ).loc Cert.ReferenceAttnV2Ideal.main_arg1) = m ((c.tc : Thread Cert.KernelAttnV2Ideal.nD Cert.KernelAttnV2Ideal.τ).loc Cert.KernelAttnV2Ideal.main_arg1)) →
    ∃ (v0 : (c : Dev Cert.KernelAttnV2Ideal.nD) → Buf (Elt Ideal) ((c.tc : Thread Cert.KernelAttnV2Ideal.nD Cert.KernelAttnV2Ideal.τ).loc Cert.KernelAttnV2Ideal.main_v3)),
      θ_run (Cert.KernelAttnV2Ideal.defs (F := Ideal)) (onTc (τ := Cert.KernelAttnV2Ideal.τ) (Cert.KernelAttnV2Ideal.main (F := Ideal))) ⟨m, fun _ => 0, g⟩ (fun r => ∀ c : Dev Cert.KernelAttnV2Ideal.nD,
          r.2.mem ((c.tc : Thread Cert.KernelAttnV2Ideal.nD Cert.KernelAttnV2Ideal.τ).loc Cert.KernelAttnV2Ideal.main_v3) = v0 c
          ∧ r.2.mem ((c.tc : Thread Cert.KernelAttnV2Ideal.nD Cert.KernelAttnV2Ideal.τ).loc Cert.KernelAttnV2Ideal.main_arg0) = m ((c.tc : Thread Cert.KernelAttnV2Ideal.nD Cert.KernelAttnV2Ideal.τ).loc Cert.KernelAttnV2Ideal.main_arg0)
          ∧ r.2.mem ((c.tc : Thread Cert.KernelAttnV2Ideal.nD Cert.KernelAttnV2Ideal.τ).loc Cert.KernelAttnV2Ideal.main_arg1) = m ((c.tc : Thread Cert.KernelAttnV2Ideal.nD Cert.KernelAttnV2Ideal.τ).loc Cert.KernelAttnV2Ideal.main_arg1))
      ∧ θ_run (Cert.ReferenceAttnV2Ideal.defs (F := Ideal)) (onTc (τ := Cert.ReferenceAttnV2Ideal.τ) (Cert.ReferenceAttnV2Ideal.main (F := Ideal))) ⟨m', fun _ => 0, g'⟩ (fun r => ∀ c : Dev Cert.ReferenceAttnV2Ideal.nD,
          r.2.mem ((c.tc : Thread Cert.ReferenceAttnV2Ideal.nD Cert.ReferenceAttnV2Ideal.τ).loc Cert.ReferenceAttnV2Ideal.main_v7) = v0 c
          ∧ r.2.mem ((c.tc : Thread Cert.ReferenceAttnV2Ideal.nD Cert.ReferenceAttnV2Ideal.τ).loc Cert.ReferenceAttnV2Ideal.main_arg0) = m' ((c.tc : Thread Cert.ReferenceAttnV2Ideal.nD Cert.ReferenceAttnV2Ideal.τ).loc Cert.ReferenceAttnV2Ideal.main_arg0)
          ∧ r.2.mem ((c.tc : Thread Cert.ReferenceAttnV2Ideal.nD Cert.ReferenceAttnV2Ideal.τ).loc Cert.ReferenceAttnV2Ideal.main_arg1) = m' ((c.tc : Thread Cert.ReferenceAttnV2Ideal.nD Cert.ReferenceAttnV2Ideal.τ).loc Cert.ReferenceAttnV2Ideal.main_arg1))

def Claim : Prop :=
  ∃ (hKernel : Cert.Kernel.Facts) (hKernelIdeal : Cert.KernelIdeal.Facts) (hReferenceIdeal : Cert.ReferenceIdeal.Facts) (hKernelQK : Cert.KernelQK.Facts) (hKernelQKIdeal : Cert.KernelQKIdeal.Facts) (hReferenceQKIdeal : Cert.ReferenceQKIdeal.Facts) (hKernelVO : Cert.KernelVO.Facts) (hKernelVOIdeal : Cert.KernelVOIdeal.Facts) (hReferenceVOIdeal : Cert.ReferenceVOIdeal.Facts) (hKernelGates : Cert.KernelGates.Facts) (hKernelGatesIdeal : Cert.KernelGatesIdeal.Facts) (hReferenceGatesIdeal : Cert.ReferenceGatesIdeal.Facts) (hKernelGateUp : Cert.KernelGateUp.Facts) (hKernelGateUpIdeal : Cert.KernelGateUpIdeal.Facts) (hReferenceGateUpIdeal : Cert.ReferenceGateUpIdeal.Facts) (hKernelDown : Cert.KernelDown.Facts) (hKernelDownIdeal : Cert.KernelDownIdeal.Facts) (hReferenceDownIdeal : Cert.ReferenceDownIdeal.Facts) (hKernelMerge : Cert.KernelMerge.Facts) (hKernelMergeIdeal : Cert.KernelMergeIdeal.Facts) (hReferenceMergeIdeal : Cert.ReferenceMergeIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelNormH : Cert.KernelNormH.Facts) (hKernelNormHIdeal : Cert.KernelNormHIdeal.Facts) (hReferenceNormHIdeal : Cert.ReferenceNormHIdeal.Facts) (hKernelPost : Cert.KernelPost.Facts) (hKernelPostIdeal : Cert.KernelPostIdeal.Facts) (hReferencePostIdeal : Cert.ReferencePostIdeal.Facts) (hKernelConv : Cert.KernelConv.Facts) (hKernelConvIdeal : Cert.KernelConvIdeal.Facts) (hReferenceConvIdeal : Cert.ReferenceConvIdeal.Facts) (hKernelAttnV0 : Cert.KernelAttnV0.Facts) (hKernelAttnV0Ideal : Cert.KernelAttnV0Ideal.Facts) (hReferenceAttnV0Ideal : Cert.ReferenceAttnV0Ideal.Facts) (hKernelAttnV1 : Cert.KernelAttnV1.Facts) (hKernelAttnV1Ideal : Cert.KernelAttnV1Ideal.Facts) (hReferenceAttnV1Ideal : Cert.ReferenceAttnV1Ideal.Facts) (hKernelAttnV2 : Cert.KernelAttnV2.Facts) (hKernelAttnV2Ideal : Cert.KernelAttnV2Ideal.Facts) (hReferenceAttnV2Ideal : Cert.ReferenceAttnV2Ideal.Facts),
    quiescent_Kernel (hKernel := hKernel)
    ∧ quiescent_KernelIdeal (hKernelIdeal := hKernelIdeal)
    ∧ quiescent_ReferenceIdeal (hReferenceIdeal := hReferenceIdeal)
    ∧ quiescent_KernelQK (hKernelQK := hKernelQK)
    ∧ quiescent_KernelQKIdeal (hKernelQKIdeal := hKernelQKIdeal)
    ∧ quiescent_ReferenceQKIdeal (hReferenceQKIdeal := hReferenceQKIdeal)
    ∧ quiescent_KernelVO (hKernelVO := hKernelVO)
    ∧ quiescent_KernelVOIdeal (hKernelVOIdeal := hKernelVOIdeal)
    ∧ quiescent_ReferenceVOIdeal (hReferenceVOIdeal := hReferenceVOIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelGateUp (hKernelGateUp := hKernelGateUp)
    ∧ quiescent_KernelGateUpIdeal (hKernelGateUpIdeal := hKernelGateUpIdeal)
    ∧ quiescent_ReferenceGateUpIdeal (hReferenceGateUpIdeal := hReferenceGateUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNormH (hKernelNormH := hKernelNormH)
    ∧ quiescent_KernelNormHIdeal (hKernelNormHIdeal := hKernelNormHIdeal)
    ∧ quiescent_ReferenceNormHIdeal (hReferenceNormHIdeal := hReferenceNormHIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelAttnV0 (hKernelAttnV0 := hKernelAttnV0)
    ∧ quiescent_KernelAttnV0Ideal (hKernelAttnV0Ideal := hKernelAttnV0Ideal)
    ∧ quiescent_ReferenceAttnV0Ideal (hReferenceAttnV0Ideal := hReferenceAttnV0Ideal)
    ∧ quiescent_KernelAttnV1 (hKernelAttnV1 := hKernelAttnV1)
    ∧ quiescent_KernelAttnV1Ideal (hKernelAttnV1Ideal := hKernelAttnV1Ideal)
    ∧ quiescent_ReferenceAttnV1Ideal (hReferenceAttnV1Ideal := hReferenceAttnV1Ideal)
    ∧ quiescent_KernelAttnV2 (hKernelAttnV2 := hKernelAttnV2)
    ∧ quiescent_KernelAttnV2Ideal (hKernelAttnV2Ideal := hKernelAttnV2Ideal)
    ∧ quiescent_ReferenceAttnV2Ideal (hReferenceAttnV2Ideal := hReferenceAttnV2Ideal)
    ∧ preserves_Kernel_KernelIdeal
    ∧ algebraic_KernelIdeal_ReferenceIdeal (hKernelIdeal := hKernelIdeal) (hReferenceIdeal := hReferenceIdeal)
    ∧ preserves_KernelQK_KernelQKIdeal
    ∧ algebraic_KernelQKIdeal_ReferenceQKIdeal (hKernelQKIdeal := hKernelQKIdeal) (hReferenceQKIdeal := hReferenceQKIdeal)
    ∧ preserves_KernelVO_KernelVOIdeal
    ∧ algebraic_KernelVOIdeal_ReferenceVOIdeal (hKernelVOIdeal := hKernelVOIdeal) (hReferenceVOIdeal := hReferenceVOIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelGateUp_KernelGateUpIdeal
    ∧ algebraic_KernelGateUpIdeal_ReferenceGateUpIdeal (hKernelGateUpIdeal := hKernelGateUpIdeal) (hReferenceGateUpIdeal := hReferenceGateUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelMerge_KernelMergeIdeal
    ∧ algebraic_KernelMergeIdeal_ReferenceMergeIdeal (hKernelMergeIdeal := hKernelMergeIdeal) (hReferenceMergeIdeal := hReferenceMergeIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNormH_KernelNormHIdeal
    ∧ algebraic_KernelNormHIdeal_ReferenceNormHIdeal (hKernelNormHIdeal := hKernelNormHIdeal) (hReferenceNormHIdeal := hReferenceNormHIdeal)
    ∧ preserves_KernelPost_KernelPostIdeal
    ∧ algebraic_KernelPostIdeal_ReferencePostIdeal (hKernelPostIdeal := hKernelPostIdeal) (hReferencePostIdeal := hReferencePostIdeal)
    ∧ preserves_KernelConv_KernelConvIdeal
    ∧ algebraic_KernelConvIdeal_ReferenceConvIdeal (hKernelConvIdeal := hKernelConvIdeal) (hReferenceConvIdeal := hReferenceConvIdeal)
    ∧ preserves_KernelAttnV0_KernelAttnV0Ideal
    ∧ algebraic_KernelAttnV0Ideal_ReferenceAttnV0Ideal (hKernelAttnV0Ideal := hKernelAttnV0Ideal) (hReferenceAttnV0Ideal := hReferenceAttnV0Ideal)
    ∧ preserves_KernelAttnV1_KernelAttnV1Ideal
    ∧ algebraic_KernelAttnV1Ideal_ReferenceAttnV1Ideal (hKernelAttnV1Ideal := hKernelAttnV1Ideal) (hReferenceAttnV1Ideal := hReferenceAttnV1Ideal)
    ∧ preserves_KernelAttnV2_KernelAttnV2Ideal
    ∧ algebraic_KernelAttnV2Ideal_ReferenceAttnV2Ideal (hKernelAttnV2Ideal := hKernelAttnV2Ideal) (hReferenceAttnV2Ideal := hReferenceAttnV2Ideal)
-- ==== Kernel.lean ====
abbrev S16384x4096 : Shape := ⟨2, ![16384, 4096]⟩
abbrev S1x4096x25632 : Shape := ⟨3, ![1, 4096, 25632]⟩
abbrev S4096x25632 : Shape := ⟨2, ![4096, 25632]⟩
abbrev S25632x4096 : Shape := ⟨2, ![25632, 4096]⟩
abbrev S16384x8192 : Shape := ⟨2, ![16384, 8192]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S4096x25632, .f32⟩
  | .hbm, ⟨3, _⟩ => ⟨S25632x4096, .f32⟩
  | .hbm, ⟨4, _⟩ => ⟨S25632x4096, .bf16⟩
  | .hbm, ⟨5, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c17440_i32 : BitVec 32 := 17440#32
  let v1 : BitVec 32 := Scalar.addi v0 c17440_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c17440_i32 : BitVec 32 := 17440#32
  let v1 : BitVec 32 := Scalar.addi v0 c17440_i32
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S16384x4096 : Shape := ⟨2, ![16384, 4096]⟩
abbrev S1x4096x25632 : Shape := ⟨3, ![1, 4096, 25632]⟩
abbrev S4096x25632 : Shape := ⟨2, ![4096, 25632]⟩
abbrev S16384x25632 : Shape := ⟨2, ![16384, 25632]⟩
abbrev S16384x8192 : Shape := ⟨2, ![16384, 8192]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S16384x4096, .f32⟩
  | .hbm, ⟨3, _⟩ => ⟨S4096x25632, .f32⟩
  | .hbm, ⟨4, _⟩ => ⟨S16384x25632, .f32⟩
  | .hbm, ⟨5, _⟩ => ⟨S16384x8192, .f32⟩
  | .hbm, ⟨6, _⟩ => ⟨S16384x8192, .f32⟩
  | .hbm, ⟨7, _⟩ => ⟨S16384x8192, .f32⟩
  | .hbm, ⟨8, _⟩ => ⟨S_, .f32⟩
  | .hbm, ⟨9, _⟩ => ⟨S16384x8192, .f32⟩
  | .hbm, ⟨10, _⟩ => ⟨S16384x8192, .f32⟩
  | .hbm, ⟨11, _⟩ => ⟨S_, .f32⟩
  | .hbm, ⟨12, _⟩ => ⟨S16384x8192, .f32⟩
  | .hbm, ⟨13, _⟩ => ⟨S16384x8192, .f32⟩
  | .hbm, ⟨14, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== KernelQK.lean ====
abbrev S16384x4096 : Shape := ⟨2, ![16384, 4096]⟩
abbrev S1x4096x25632 : Shape := ⟨3, ![1, 4096, 25632]⟩
abbrev S4096x25632 : Shape := ⟨2, ![4096, 25632]⟩
abbrev S25632x4096 : Shape := ⟨2, ![25632, 4096]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S4096x25632, .f32⟩
  | .hbm, ⟨3, _⟩ => ⟨S25632x4096, .f32⟩
  | .hbm, ⟨4, _⟩ => ⟨S25632x4096, .bf16⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c9216_i32 : BitVec 32 := 9216#32
  let v1 : BitVec 32 := Scalar.addi v0 c9216_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c9216_i32 : BitVec 32 := 9216#32
  let v1 : BitVec 32 := Scalar.addi v0 c9216_i32
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceQKIdeal.lean ====
abbrev S16384x4096 : Shape := ⟨2, ![16384, 4096]⟩
abbrev S1x4096x25632 : Shape := ⟨3, ![1, 4096, 25632]⟩
abbrev S4096x25632 : Shape := ⟨2, ![4096, 25632]⟩
abbrev S16384x25632 : Shape := ⟨2, ![16384, 25632]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S16384x4096, .f32⟩
  | .hbm, ⟨3, _⟩ => ⟨S4096x25632, .f32⟩
  | .hbm, ⟨4, _⟩ => ⟨S16384x25632, .f32⟩
  | .hbm, ⟨5, _⟩ => ⟨S16384x4096, .f32⟩
  | .hbm, ⟨6, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelVO.lean ====
abbrev S16384x4096 : Shape := ⟨2, ![16384, 4096]⟩
abbrev S1x4096x25632 : Shape := ⟨3, ![1, 4096, 25632]⟩
abbrev S4096x25632 : Shape := ⟨2, ![4096, 25632]⟩
abbrev S25632x4096 : Shape := ⟨2, ![25632, 4096]⟩
abbrev S1024x4096 : Shape := ⟨2, ![1024, 4096]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S4096x25632, .f32⟩
  | .hbm, ⟨3, _⟩ => ⟨S25632x4096, .f32⟩
  | .hbm, ⟨4, _⟩ => ⟨S25632x4096, .bf16⟩
  | .hbm, ⟨5, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c13312_i32 : BitVec 32 := 13312#32
  let v1 : BitVec 32 := Scalar.addi v0 c13312_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c13312_i32 : BitVec 32 := 13312#32
  let v1 : BitVec 32 := Scalar.addi v0 c13312_i32
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceVOIdeal.lean ====
abbrev S16384x4096 : Shape := ⟨2, ![16384, 4096]⟩
abbrev S1x4096x25632 : Shape := ⟨3, ![1, 4096, 25632]⟩
abbrev S4096x25632 : Shape := ⟨2, ![4096, 25632]⟩
abbrev S16384x25632 : Shape := ⟨2, ![16384, 25632]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S16384x4096, .f32⟩
  | .hbm, ⟨3, _⟩ => ⟨S4096x25632, .f32⟩
  | .hbm, ⟨4, _⟩ => ⟨S16384x25632, .f32⟩
  | .hbm, ⟨5, _⟩ => ⟨S16384x4096, .f32⟩
  | .hbm, ⟨6, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelGates.lean ====
abbrev S16384x4096 : Shape := ⟨2, ![16384, 4096]⟩
abbrev S1x4096x25632 : Shape := ⟨3, ![1, 4096, 25632]⟩
abbrev S4096x25632 : Shape := ⟨2, ![4096, 25632]⟩
abbrev S25632x4096 : Shape := ⟨2, ![25632, 4096]⟩
abbrev S32x4096 : Shape := ⟨2, ![32, 4096]⟩
abbrev S32x16384 : Shape := ⟨2, ![32, 16384]⟩
abbrev S1024x4096 : Shape := ⟨2, ![1024, 4096]⟩
abbrev S32x1024 : Shape := ⟨2, ![32, 1024]⟩

abbrev nBuf : Space → Nat
  | .hbm => 7
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S4096x25632, .f32⟩
  | .hbm, ⟨3, _⟩ => ⟨S25632x4096, .f32⟩
  | .hbm, ⟨4, _⟩ => ⟨S25632x4096, .bf16⟩
  | .hbm, ⟨5, _⟩ => ⟨S32x4096, .bf16⟩
  | .hbm, ⟨6, _⟩ => ⟨S32x16384, .f32⟩
  | .local _ .vmem, ⟨0, _⟩ => ⟨S32x4096, .bf16⟩
  | .local _ .vmem, ⟨1, _⟩ => ⟨S1024x4096, .bf16⟩
  | .local _ .vmem, ⟨2, _⟩ => ⟨S1024x4096, .bf16⟩
  | .local _ .vmem, ⟨3, _⟩ => ⟨S32x1024, .f32⟩
  | .local _ .vmem, ⟨4, _⟩ => ⟨S32x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c0_i32 : BitVec 32 := 0#32
  let v1 : BitVec 32 := Scalar.addi v0 c0_i32
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S32x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGatesIdeal.lean ====
abbrev S16384x4096 : Shape := ⟨2, ![16384, 4096]⟩
abbrev S1x4096x25632 : Shape := ⟨3, ![1, 4096, 25632]⟩
abbrev S4096x25632 : Shape := ⟨2, ![4096, 25632]⟩
abbrev S16384x25632 : Shape := ⟨2, ![16384, 25632]⟩
abbrev S16384x32 : Shape := ⟨2, ![16384, 32]⟩
abbrev S32x16384 : Shape := ⟨2, ![32, 16384]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S16384x4096, .f32⟩
  | .hbm, ⟨3, _⟩ => ⟨S4096x25632, .f32⟩
  | .hbm, ⟨4, _⟩ => ⟨S16384x25632, .f32⟩
  | .hbm, ⟨5, _⟩ => ⟨S16384x32, .f32⟩
  | .hbm, ⟨6, _⟩ => ⟨S32x16384, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelGateUp.lean ====
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S2048x4096 : Shape := ⟨2, ![2048, 4096]⟩
abbrev S4096x256 : Shape := ⟨2, ![4096, 256]⟩
abbrev S2048x256 : Shape := ⟨2, ![2048, 256]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S4096x11008, .f32⟩
  | .hbm, ⟨4, _⟩ => ⟨S4096x11008, .f32⟩
  | .hbm, ⟨5, _⟩ => ⟨S16384x11008, .bf16⟩
  | .local _ .vmem, ⟨0, _⟩ => ⟨S2048x4096, .bf16⟩
  | .local _ .vmem, ⟨1, _⟩ => ⟨S2048x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S2048x256, .bf16⟩
  | .local _ .vmem, ⟨7, _⟩ => ⟨S2048x256, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGateUpIdeal.lean ====
abbrev S16384x4096 : Shape := ⟨2, ![16384, 4096]⟩
abbrev S1x4096x11008 : Shape := ⟨3, ![1, 4096, 11008]⟩
abbrev S4096x11008 : Shape := ⟨2, ![4096, 11008]⟩
abbrev S16384x11008 : Shape := ⟨2, ![16384, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x11008, .f32⟩
  | .hbm, ⟨2, _⟩ => ⟨S1x4096x11008, .f32⟩
  | .hbm, ⟨3, _⟩ => ⟨S16384x4096, .f32⟩
  | .hbm, ⟨4, _⟩ => ⟨S4096x11008, .f32⟩
  | .hbm, ⟨5, _⟩ => ⟨S16384x11008, .f32⟩
  | .hbm, ⟨6, _⟩ => ⟨S16384x11008, .f32⟩
  | .hbm, ⟨7, _⟩ => ⟨S16384x11008, .f32⟩
  | .hbm, ⟨8, _⟩ => ⟨S_, .f32⟩
  | .hbm, ⟨9, _⟩ => ⟨S16384x11008, .f32⟩
  | .hbm, ⟨10, _⟩ => ⟨S16384x11008, .f32⟩
  | .hbm, ⟨11, _⟩ => ⟨S_, .f32⟩
  | .hbm, ⟨12, _⟩ => ⟨S16384x11008, .f32⟩
  | .hbm, ⟨13, _⟩ => ⟨S16384x11008, .f32⟩
  | .hbm, ⟨14, _⟩ => ⟨S16384x11008, .f32⟩
  | .hbm, ⟨15, _⟩ => ⟨S4096x11008, .f32⟩
  | .hbm, ⟨16, _⟩ => ⟨S16384x11008, .f32⟩
  | .hbm, ⟨17, _⟩ => ⟨S16384x11008, .f32⟩
  | .hbm, ⟨18, _⟩ => ⟨S16384x11008, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== KernelDown.lean ====
abbrev S16384x11008 : Shape := ⟨2, ![16384, 11008]⟩
abbrev S1x11008x4096 : Shape := ⟨3, ![1, 11008, 4096]⟩
abbrev S16384x4096 : Shape := ⟨2, ![16384, 4096]⟩
abbrev S11008x4096 : Shape := ⟨2, ![11008, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 6
  | .vmem => 8
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S16384x4096, .f32⟩
  | .hbm, ⟨3, _⟩ => ⟨S11008x4096, .f32⟩
  | .hbm, ⟨4, _⟩ => ⟨S11008x4096, .bf16⟩
  | .hbm, ⟨5, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceDownIdeal.lean ====
abbrev S16384x11008 : Shape := ⟨2, ![16384, 11008]⟩
abbrev S1x11008x4096 : Shape := ⟨3, ![1, 11008, 4096]⟩
abbrev S16384x4096 : Shape := ⟨2, ![16384, 4096]⟩
abbrev S11008x4096 : Shape := ⟨2, ![11008, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S1x11008x4096, .f32⟩
  | .hbm, ⟨2, _⟩ => ⟨S16384x4096, .f32⟩
  | .hbm, ⟨3, _⟩ => ⟨S16384x11008, .f32⟩
  | .hbm, ⟨4, _⟩ => ⟨S11008x4096, .f32⟩
  | .hbm, ⟨5, _⟩ => ⟨S16384x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelMerge.lean ====
abbrev S16384x1024 : Shape := ⟨2, ![16384, 1024]⟩
abbrev S16384x2048 : Shape := ⟨2, ![16384, 2048]⟩
abbrev S16384x8192 : Shape := ⟨2, ![16384, 8192]⟩
abbrev S1x1024x4096 : Shape := ⟨3, ![1, 1024, 4096]⟩
abbrev S1x2048x4096 : Shape := ⟨3, ![1, 2048, 4096]⟩
abbrev S1024x4096 : Shape := ⟨2, ![1024, 4096]⟩
abbrev S2048x4096 : Shape := ⟨2, ![2048, 4096]⟩
abbrev S16384x4096 : Shape := ⟨2, ![16384, 4096]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x8192, .bf16⟩
  | .hbm, ⟨3, _⟩ => ⟨S1x1024x4096, .f32⟩
  | .hbm, ⟨4, _⟩ => ⟨S1x2048x4096, .f32⟩
  | .hbm, ⟨5, _⟩ => ⟨S1024x4096, .f32⟩
  | .hbm, ⟨6, _⟩ => ⟨S1024x4096, .bf16⟩
  | .hbm, ⟨7, _⟩ => ⟨S2048x4096, .f32⟩
  | .hbm, ⟨8, _⟩ => ⟨S2048x4096, .bf16⟩
  | .hbm, ⟨9, _⟩ => ⟨S16384x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceMergeIdeal.lean ====
abbrev S16384x1024 : Shape := ⟨2, ![16384, 1024]⟩
abbrev S16384x2048 : Shape := ⟨2, ![16384, 2048]⟩
abbrev S16384x8192 : Shape := ⟨2, ![16384, 8192]⟩
abbrev S1x1024x4096 : Shape := ⟨3, ![1, 1024, 4096]⟩
abbrev S1x2048x4096 : Shape := ⟨3, ![1, 2048, 4096]⟩
abbrev S16384x4096 : Shape := ⟨2, ![16384, 4096]⟩
abbrev S1024x4096 : Shape := ⟨2, ![1024, 4096]⟩
abbrev S2048x4096 : Shape := ⟨2, ![2048, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x2048, .bf16⟩
  | .hbm, ⟨2, _⟩ => ⟨S16384x8192, .bf16⟩
  | .hbm, ⟨3, _⟩ => ⟨S1x1024x4096, .f32⟩
  | .hbm, ⟨4, _⟩ => ⟨S1x2048x4096, .f32⟩
  | .hbm, ⟨5, _⟩ => ⟨S16384x4096, .bf16⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S16384x1024, .f32⟩
  | .hbm, ⟨10, _⟩ => ⟨S1024x4096, .f32⟩
  | .hbm, ⟨11, _⟩ => ⟨S16384x4096, .f32⟩
  | .hbm, ⟨12, _⟩ => ⟨S16384x4096, .f32⟩
  | .hbm, ⟨13, _⟩ => ⟨S16384x2048, .f32⟩
  | .hbm, ⟨14, _⟩ => ⟨S2048x4096, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelOut.lean ====
abbrev S16384x4096 : Shape := ⟨2, ![16384, 4096]⟩
abbrev S1x4096x4096 : Shape := ⟨3, ![1, 4096, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S4096x4096, .f32⟩
  | .hbm, ⟨4, _⟩ => ⟨S4096x4096, .bf16⟩
  | .hbm, ⟨5, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceOutIdeal.lean ====
abbrev S16384x4096 : Shape := ⟨2, ![16384, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x4096, .f32⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S16384x4096, .f32⟩
  | .hbm, ⟨6, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelNorm.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== KernelNormH.lean ====
abbrev S16384x4096 : Shape := ⟨2, ![16384, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormHIdeal.lean ====
abbrev S16384x4096 : Shape := ⟨2, ![16384, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== KernelPost.lean ====
abbrev S16384x2048 : Shape := ⟨2, ![16384, 2048]⟩
abbrev S16384x4096 : Shape := ⟨2, ![16384, 4096]⟩
abbrev S1x2048 : Shape := ⟨2, ![1, 2048]⟩
abbrev S2048 : Shape := ⟨1, ![2048]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x4096, .bf16⟩
  | .hbm, ⟨3, _⟩ => ⟨S1x2048, .f32⟩
  | .hbm, ⟨4, _⟩ => ⟨S2048, .f32⟩
  | .hbm, ⟨5, _⟩ => ⟨S1x2048, .f32⟩
  | .hbm, ⟨6, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferencePostIdeal.lean ====
abbrev S16384x2048 : Shape := ⟨2, ![16384, 2048]⟩
abbrev S16384x4096 : Shape := ⟨2, ![16384, 4096]⟩
abbrev S1x2048 : Shape := ⟨2, ![1, 2048]⟩
abbrev S16384x8x256 : Shape := ⟨3, ![16384, 8, 256]⟩
abbrev S_ : Shape := ⟨0, ![]⟩
abbrev S16384x8 : Shape := ⟨2, ![16384, 8]⟩
abbrev S16384x8x1 : Shape := ⟨3, ![16384, 8, 1]⟩
abbrev S2048 : Shape := ⟨1, ![2048]⟩
abbrev S8x256 : Shape := ⟨2, ![8, 256]⟩
abbrev S1x8x256 : Shape := ⟨3, ![1, 8, 256]⟩

abbrev nBuf : Space → Nat
  | .hbm => 47
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .hbm, ⟨2, _⟩ => ⟨S16384x4096, .bf16⟩
  | .hbm, ⟨3, _⟩ => ⟨S1x2048, .f32⟩
  | .hbm, ⟨4, _⟩ => ⟨S16384x2048, .f32⟩
  | .hbm, ⟨5, _⟩ => ⟨S16384x8x256, .f32⟩
  | .hbm, ⟨6, _⟩ => ⟨S_, .f32⟩
  | .hbm, ⟨7, _⟩ => ⟨S16384x8, .f32⟩
  | .hbm, ⟨8, _⟩ => ⟨S16384x8x1, .f32⟩
  | .hbm, ⟨9, _⟩ => ⟨S_, .f32⟩
  | .hbm, ⟨10, _⟩ => ⟨S16384x8x1, .f32⟩
  | .hbm, ⟨11, _⟩ => ⟨S16384x8x1, .f32⟩
  | .hbm, ⟨12, _⟩ => ⟨S16384x8x256, .f32⟩
  | .hbm, ⟨13, _⟩ => ⟨S16384x8x256, .f32⟩
  | .hbm, ⟨14, _⟩ => ⟨S16384x8x256, .f32⟩
  | .hbm, ⟨15, _⟩ => ⟨S_, .f32⟩
  | .hbm, ⟨16, _⟩ => ⟨S16384x8, .f32⟩
  | .hbm, ⟨17, _⟩ => ⟨S16384x8x1, .f32⟩
  | .hbm, ⟨18, _⟩ => ⟨S_, .f32⟩
  | .hbm, ⟨19, _⟩ => ⟨S16384x8x1, .f32⟩
  | .hbm, ⟨20, _⟩ => ⟨S16384x8x1, .f32⟩
  | .hbm, ⟨21, _⟩ => ⟨S16384x8x256, .f32⟩
  | .hbm, ⟨22, _⟩ => ⟨S16384x8x256, .f32⟩
  | .hbm, ⟨23, _⟩ => ⟨S_, .f32⟩
  | .hbm, ⟨24, _⟩ => ⟨S16384x8x1, .f32⟩
  | .hbm, ⟨25, _⟩ => ⟨S16384x8x1, .f32⟩
  | .hbm, ⟨26, _⟩ => ⟨S16384x8x1, .f32⟩
  | .hbm, ⟨27, _⟩ => ⟨S16384x8x256, .f32⟩
  | .hbm, ⟨28, _⟩ => ⟨S16384x8x256, .f32⟩
  | .hbm, ⟨29, _⟩ => ⟨S2048, .f32⟩
  | .hbm, ⟨30, _⟩ => ⟨S8x256, .f32⟩
  | .hbm, ⟨31, _⟩ => ⟨S1x8x256, .f32⟩
  | .hbm, ⟨32, _⟩ => ⟨S16384x8x256, .f32⟩
  | .hbm, ⟨33, _⟩ => ⟨S16384x8x256, .f32⟩
  | .hbm, ⟨34, _⟩ => ⟨S16384x2048, .bf16⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S_, .f32⟩
  | .hbm, ⟨42, _⟩ => ⟨S16384x2048, .f32⟩
  | .hbm, ⟨43, _⟩ => ⟨S16384x2048, .f32⟩
  | .hbm, ⟨44, _⟩ => ⟨S16384x2048, .f32⟩
  | .hbm, ⟨45, _⟩ => ⟨S16384x2048, .f32⟩
  | .hbm, ⟨46, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]
-- ==== KernelConv.lean ====
abbrev S16384x4096 : Shape := ⟨2, ![16384, 4096]⟩
abbrev S1x5x4096 : Shape := ⟨3, ![1, 5, 4096]⟩
abbrev S1x4096 : Shape := ⟨2, ![1, 4096]⟩
abbrev S_ : Shape := ⟨0, ![]⟩
abbrev S2048 : Shape := ⟨1, ![2048]⟩
abbrev S4096 : Shape := ⟨1, ![4096]⟩
abbrev S5x4096 : Shape := ⟨2, ![5, 4096]⟩
abbrev S2x8192x4096 : Shape := ⟨3, ![2, 8192, 4096]⟩
abbrev S1x8x512 : Shape := ⟨3, ![1, 8, 512]⟩
abbrev S1x512x512 : Shape := ⟨3, ![1, 512, 512]⟩
abbrev S5x512 : Shape := ⟨2, ![5, 512]⟩
abbrev S1x512 : Shape := ⟨2, ![1, 512]⟩
abbrev S528x512 : Shape := ⟨2, ![528, 512]⟩
abbrev S8x512 : Shape := ⟨2, ![8, 512]⟩
abbrev S512x512 : Shape := ⟨2, ![512, 512]⟩

abbrev nBuf : Space → Nat
  | .hbm => 14
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S1x5x4096, .f32⟩
  | .hbm, ⟨2, _⟩ => ⟨S1x4096, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S2048, .f32⟩
  | .hbm, ⟨7, _⟩ => ⟨S4096, .f32⟩
  | .hbm, ⟨8, _⟩ => ⟨S5x4096, .f32⟩
  | .hbm, ⟨9, _⟩ => ⟨S4096, .f32⟩
  | .hbm, ⟨10, _⟩ => ⟨S2x8192x4096, .bf16⟩
  | .hbm, ⟨11, _⟩ => ⟨S1x4096, .f32⟩
  | .hbm, ⟨12, _⟩ => ⟨S1x4096, .f32⟩
  | .hbm, ⟨13, _⟩ => ⟨S2x8192x4096, .bf16⟩
  | .local _ .vmem, ⟨0, _⟩ => ⟨S1x8x512, .bf16⟩
  | .local _ .vmem, ⟨1, _⟩ => ⟨S1x8x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x8x512, .bf16⟩
  | .local _ .vmem, ⟨5, _⟩ => ⟨S1x8x512, .bf16⟩
  | .local _ .vmem, ⟨6, _⟩ => ⟨S5x512, .f32⟩
  | .local _ .vmem, ⟨7, _⟩ => ⟨S5x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512x512, .bf16⟩
  | .local _ .vmem, ⟨13, _⟩ => ⟨S1x512x512, .bf16⟩
  | .local _ .vmem, ⟨14, _⟩ => ⟨S528x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  ![arg0.toNat, v2.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x8x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S5x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceConvIdeal.lean ====
abbrev S16384x4096 : Shape := ⟨2, ![16384, 4096]⟩
abbrev S1x5x4096 : Shape := ⟨3, ![1, 5, 4096]⟩
abbrev S1x4096 : Shape := ⟨2, ![1, 4096]⟩
abbrev S2x8192x4096 : Shape := ⟨3, ![2, 8192, 4096]⟩
abbrev S_ : Shape := ⟨0, ![]⟩
abbrev S2x8196x4096 : Shape := ⟨3, ![2, 8196, 4096]⟩
abbrev S1x1x4096 : Shape := ⟨3, ![1, 1, 4096]⟩
abbrev S4096 : Shape := ⟨1, ![4096]⟩
abbrev S2x8192x2048 : Shape := ⟨3, ![2, 8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x5x4096, .f32⟩
  | .hbm, ⟨2, _⟩ => ⟨S1x4096, .f32⟩
  | .hbm, ⟨3, _⟩ => ⟨S16384x4096, .f32⟩
  | .hbm, ⟨4, _⟩ => ⟨S2x8192x4096, .f32⟩
  | .hbm, ⟨5, _⟩ => ⟨S_, .i32⟩
  | .hbm, ⟨6, _⟩ => ⟨S_, .f32⟩
  | .hbm, ⟨7, _⟩ => ⟨S2x8196x4096, .f32⟩
  | .hbm, ⟨8, _⟩ => ⟨S2x8192x4096, .f32⟩
  | .hbm, ⟨9, _⟩ => ⟨S1x1x4096, .f32⟩
  | .hbm, ⟨10, _⟩ => ⟨S4096, .f32⟩
  | .hbm, ⟨11, _⟩ => ⟨S1x1x4096, .f32⟩
  | .hbm, ⟨12, _⟩ => ⟨S2x8192x4096, .f32⟩
  | .hbm, ⟨13, _⟩ => ⟨S2x8192x4096, .f32⟩
  | .hbm, ⟨14, _⟩ => ⟨S_, .f32⟩
  | .hbm, ⟨15, _⟩ => ⟨S2x8192x4096, .f32⟩
  | .hbm, ⟨16, _⟩ => ⟨S2x8192x4096, .f32⟩
  | .hbm, ⟨17, _⟩ => ⟨S2x8192x4096, .f32⟩
  | .hbm, ⟨18, _⟩ => ⟨S1x1x4096, .f32⟩
  | .hbm, ⟨19, _⟩ => ⟨S4096, .f32⟩
  | .hbm, ⟨20, _⟩ => ⟨S1x1x4096, .f32⟩
  | .hbm, ⟨21, _⟩ => ⟨S2x8192x4096, .f32⟩
  | .hbm, ⟨22, _⟩ => ⟨S2x8192x4096, .f32⟩
  | .hbm, ⟨23, _⟩ => ⟨S2x8192x4096, .f32⟩
  | .hbm, ⟨24, _⟩ => ⟨S2x8192x4096, .f32⟩
  | .hbm, ⟨25, _⟩ => ⟨S1x1x4096, .f32⟩
  | .hbm, ⟨26, _⟩ => ⟨S4096, .f32⟩
  | .hbm, ⟨27, _⟩ => ⟨S1x1x4096, .f32⟩
  | .hbm, ⟨28, _⟩ => ⟨S2x8192x4096, .f32⟩
  | .hbm, ⟨29, _⟩ => ⟨S2x8192x4096, .f32⟩
  | .hbm, ⟨30, _⟩ => ⟨S2x8192x4096, .f32⟩
  | .hbm, ⟨31, _⟩ => ⟨S2x8192x4096, .f32⟩
  | .hbm, ⟨32, _⟩ => ⟨S1x1x4096, .f32⟩
  | .hbm, ⟨33, _⟩ => ⟨S4096, .f32⟩
  | .hbm, ⟨34, _⟩ => ⟨S1x1x4096, .f32⟩
  | .hbm, ⟨35, _⟩ => ⟨S2x8192x4096, .f32⟩
  | .hbm, ⟨36, _⟩ => ⟨S2x8192x4096, .f32⟩
  | .hbm, ⟨37, _⟩ => ⟨S2x8192x4096, .f32⟩
  | .hbm, ⟨38, _⟩ => ⟨S2x8192x4096, .f32⟩
  | .hbm, ⟨39, _⟩ => ⟨S1x1x4096, .f32⟩
  | .hbm, ⟨40, _⟩ => ⟨S4096, .f32⟩
  | .hbm, ⟨41, _⟩ => ⟨S1x1x4096, .f32⟩
  | .hbm, ⟨42, _⟩ => ⟨S2x8192x4096, .f32⟩
  | .hbm, ⟨43, _⟩ => ⟨S2x8192x4096, .f32⟩
  | .hbm, ⟨44, _⟩ => ⟨S2x8192x4096, .f32⟩
  | .hbm, ⟨45, _⟩ => ⟨S4096, .f32⟩
  | .hbm, ⟨46, _⟩ => ⟨S1x1x4096, .f32⟩
  | .hbm, ⟨47, _⟩ => ⟨S2x8192x4096, .f32⟩
  | .hbm, ⟨48, _⟩ => ⟨S2x8192x4096, .f32⟩
  | .hbm, ⟨49, _⟩ => ⟨S2x8192x4096, .f32⟩
  | .hbm, ⟨50, _⟩ => ⟨S2x8192x4096, .f32⟩
  | .hbm, ⟨51, _⟩ => ⟨S_, .f32⟩
  | .hbm, ⟨52, _⟩ => ⟨S2x8192x4096, .f32⟩
  | .hbm, ⟨53, _⟩ => ⟨S2x8192x4096, .f32⟩
  | .hbm, ⟨54, _⟩ => ⟨S_, .f32⟩
  | .hbm, ⟨55, _⟩ => ⟨S2x8192x4096, .f32⟩
  | .hbm, ⟨56, _⟩ => ⟨S2x8192x4096, .f32⟩
  | .hbm, ⟨57, _⟩ => ⟨S2x8192x4096, .f32⟩
  | .hbm, ⟨58, _⟩ => ⟨S2x8192x2048, .f32⟩
  | .hbm, ⟨59, _⟩ => ⟨S2x8192x2048, .f32⟩
  | .hbm, ⟨60, _⟩ => ⟨S_, .f32⟩
  | .hbm, ⟨61, _⟩ => ⟨S2x8192x2048, .f32⟩
  | .hbm, ⟨62, _⟩ => ⟨S2x8192x2048, .f32⟩
  | .hbm, ⟨63, _⟩ => ⟨S2x8192x4096, .f32⟩
  | .hbm, ⟨64, _⟩ => ⟨S2x8192x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== KernelAttnV0.lean ====
abbrev S16384x4096 : Shape := ⟨2, ![16384, 4096]⟩
abbrev S1x4096x25632 : Shape := ⟨3, ![1, 4096, 25632]⟩
abbrev S4096x25632 : Shape := ⟨2, ![4096, 25632]⟩
abbrev S25632x4096 : Shape := ⟨2, ![25632, 4096]⟩
abbrev S2x1x8192x1024 : Shape := ⟨4, ![2, 1, 8192, 1024]⟩
abbrev S1024x4096 : Shape := ⟨2, ![1024, 4096]⟩
abbrev S1x1x1024x1024 : Shape := ⟨4, ![1, 1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S4096x25632, .f32⟩
  | .hbm, ⟨3, _⟩ => ⟨S25632x4096, .f32⟩
  | .hbm, ⟨4, _⟩ => ⟨S25632x4096, .bf16⟩
  | .hbm, ⟨5, _⟩ => ⟨S2x1x8192x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1x1x1024x1024, .bf16⟩
  | .local _ .vmem, ⟨4, _⟩ => ⟨S1x1x1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAttnV0Ideal.lean ====
abbrev S16384x4096 : Shape := ⟨2, ![16384, 4096]⟩
abbrev S1x4096x25632 : Shape := ⟨3, ![1, 4096, 25632]⟩
abbrev S4096x25632 : Shape := ⟨2, ![4096, 25632]⟩
abbrev S16384x25632 : Shape := ⟨2, ![16384, 25632]⟩
abbrev S16384x1024 : Shape := ⟨2, ![16384, 1024]⟩
abbrev S2x8192x1024 : Shape := ⟨3, ![2, 8192, 1024]⟩
abbrev S2x8192x1x1024 : Shape := ⟨4, ![2, 8192, 1, 1024]⟩
abbrev S2x1x8192x1024 : Shape := ⟨4, ![2, 1, 8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S16384x4096, .f32⟩
  | .hbm, ⟨3, _⟩ => ⟨S4096x25632, .f32⟩
  | .hbm, ⟨4, _⟩ => ⟨S16384x25632, .f32⟩
  | .hbm, ⟨5, _⟩ => ⟨S16384x1024, .f32⟩
  | .hbm, ⟨6, _⟩ => ⟨S2x8192x1024, .f32⟩
  | .hbm, ⟨7, _⟩ => ⟨S2x8192x1x1024, .f32⟩
  | .hbm, ⟨8, _⟩ => ⟨S2x1x8192x1024, .f32⟩
  | .hbm, ⟨9, _⟩ => ⟨S2x1x8192x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelAttnV1.lean ====
abbrev S16384x4096 : Shape := ⟨2, ![16384, 4096]⟩
abbrev S1x4096x25632 : Shape := ⟨3, ![1, 4096, 25632]⟩
abbrev S4096x25632 : Shape := ⟨2, ![4096, 25632]⟩
abbrev S25632x4096 : Shape := ⟨2, ![25632, 4096]⟩
abbrev S2x4x2048x1024 : Shape := ⟨4, ![2, 4, 2048, 1024]⟩
abbrev S1024x4096 : Shape := ⟨2, ![1024, 4096]⟩
abbrev S1x4x256x1024 : Shape := ⟨4, ![1, 4, 256, 1024]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩
abbrev S1x256x128 : Shape := ⟨3, ![1, 256, 128]⟩
abbrev S256x128 : Shape := ⟨2, ![256, 128]⟩
abbrev S1x1x256x128 : Shape := ⟨4, ![1, 1, 256, 128]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S4096x25632, .f32⟩
  | .hbm, ⟨3, _⟩ => ⟨S25632x4096, .f32⟩
  | .hbm, ⟨4, _⟩ => ⟨S25632x4096, .bf16⟩
  | .hbm, ⟨5, _⟩ => ⟨S2x4x2048x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1x4x256x1024, .bf16⟩
  | .local _ .vmem, ⟨4, _⟩ => ⟨S1x4x256x1024, .bf16⟩
  | .local _ .vmem, ⟨5, _⟩ => ⟨S8x1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi arg1 c7_i32
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x4x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAttnV1Ideal.lean ====
abbrev S16384x4096 : Shape := ⟨2, ![16384, 4096]⟩
abbrev S1x4096x25632 : Shape := ⟨3, ![1, 4096, 25632]⟩
abbrev S4096x25632 : Shape := ⟨2, ![4096, 25632]⟩
abbrev S16384x25632 : Shape := ⟨2, ![16384, 25632]⟩
abbrev S16384x1024 : Shape := ⟨2, ![16384, 1024]⟩
abbrev S2x8192x1024 : Shape := ⟨3, ![2, 8192, 1024]⟩
abbrev S2x2048x4x1024 : Shape := ⟨4, ![2, 2048, 4, 1024]⟩
abbrev S2x4x2048x1024 : Shape := ⟨4, ![2, 4, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S16384x4096, .f32⟩
  | .hbm, ⟨3, _⟩ => ⟨S4096x25632, .f32⟩
  | .hbm, ⟨4, _⟩ => ⟨S16384x25632, .f32⟩
  | .hbm, ⟨5, _⟩ => ⟨S16384x1024, .f32⟩
  | .hbm, ⟨6, _⟩ => ⟨S2x8192x1024, .f32⟩
  | .hbm, ⟨7, _⟩ => ⟨S2x2048x4x1024, .f32⟩
  | .hbm, ⟨8, _⟩ => ⟨S2x4x2048x1024, .f32⟩
  | .hbm, ⟨9, _⟩ => ⟨S2x4x2048x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelAttnV2.lean ====
abbrev S16384x4096 : Shape := ⟨2, ![16384, 4096]⟩
abbrev S1x4096x25632 : Shape := ⟨3, ![1, 4096, 25632]⟩
abbrev S4096x25632 : Shape := ⟨2, ![4096, 25632]⟩
abbrev S25632x4096 : Shape := ⟨2, ![25632, 4096]⟩
abbrev S2x16x512x1024 : Shape := ⟨4, ![2, 16, 512, 1024]⟩
abbrev S1024x4096 : Shape := ⟨2, ![1024, 4096]⟩
abbrev S1x16x64x1024 : Shape := ⟨4, ![1, 16, 64, 1024]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩
abbrev S1x64x128 : Shape := ⟨3, ![1, 64, 128]⟩
abbrev S64x128 : Shape := ⟨2, ![64, 128]⟩
abbrev S1x1x64x128 : Shape := ⟨4, ![1, 1, 64, 128]⟩

abbrev nBuf : Space → Nat
  | .hbm => 6
  | .vmem => 6
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S4096x25632, .f32⟩
  | .hbm, ⟨3, _⟩ => ⟨S25632x4096, .f32⟩
  | .hbm, ⟨4, _⟩ => ⟨S25632x4096, .bf16⟩
  | .hbm, ⟨5, _⟩ => ⟨S2x16x512x1024, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1x16x64x1024, .bf16⟩
  | .local _ .vmem, ⟨4, _⟩ => ⟨S1x16x64x1024, .bf16⟩
  | .local _ .vmem, ⟨5, _⟩ => ⟨S8x1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x16x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceAttnV2Ideal.lean ====
abbrev S16384x4096 : Shape := ⟨2, ![16384, 4096]⟩
abbrev S1x4096x25632 : Shape := ⟨3, ![1, 4096, 25632]⟩
abbrev S4096x25632 : Shape := ⟨2, ![4096, 25632]⟩
abbrev S16384x25632 : Shape := ⟨2, ![16384, 25632]⟩
abbrev S16384x1024 : Shape := ⟨2, ![16384, 1024]⟩
abbrev S2x8192x1024 : Shape := ⟨3, ![2, 8192, 1024]⟩
abbrev S2x512x16x1024 : Shape := ⟨4, ![2, 512, 16, 1024]⟩
abbrev S2x16x512x1024 : Shape := ⟨4, ![2, 16, 512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x25632, .f32⟩
  | .hbm, ⟨2, _⟩ => ⟨S16384x4096, .f32⟩
  | .hbm, ⟨3, _⟩ => ⟨S4096x25632, .f32⟩
  | .hbm, ⟨4, _⟩ => ⟨S16384x25632, .f32⟩
  | .hbm, ⟨5, _⟩ => ⟨S16384x1024, .f32⟩
  | .hbm, ⟨6, _⟩ => ⟨S2x8192x1024, .f32⟩
  | .hbm, ⟨7, _⟩ => ⟨S2x512x16x1024, .f32⟩
  | .hbm, ⟨8, _⟩ => ⟨S2x16x512x1024, .f32⟩
  | .hbm, ⟨9, _⟩ => ⟨S2x16x512x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Proof.Values.Common.lean ====
/-
  Two spellings of the logistic function agree on all extended reals: half the hyperbolic tangent of half the
  argument, plus one half, which is how the kernels write it, and one over one plus the exponential of the negated
  argument, which is how the reference writes it. Also the values of the float words that occur in both, and the zero offsets
  of a block's only store.
-/
module

public import Idealize.ShloMosaic.PureOps.Ideal
public import Idealize.ShloMosaic.PureOps.Ideal.Laws

@[expose] public section

noncomputable section

namespace Layer

open Idealize.ShloMosaic

/-- The offsets of a store of a whole rank-two block are zero. -/
theorem offsets_zero : (![0, 0] : Fin 2 → Nat) = fun _ => 0 := funext fun a => by fin_cases a <;> rfl

/-- The word `0x3F000000` is one half. -/
theorem word_half : Ideal.ofBits .f32 1056964608#32 = ((1 / 2 : ℝ) : EReal) := by
  simp [Ideal.ofBits, Ideal.ieee, -EReal.coe_mul]; norm_num

/-- The word `0x3F800000` is one. -/
theorem word_one : Ideal.ofBits .f32 1065353216#32 = (1 : EReal) := by
  simp [Ideal.ofBits, Ideal.ieee, -EReal.coe_mul]; norm_num

/-- The word `0` is zero. -/
theorem word_zero : Ideal.ofBits .f32 0#32 = (0 : EReal) := by
  simp [Ideal.ofBits, Ideal.ieee]

/-- One plus the exponential of a real number is not zero. -/
theorem one_add_exp_pos (r : ℝ) : (0 : ℝ) < 1 + Real.exp r := by positivity

/-- For a real argument: half the tangent of half of it, plus one half, is one over one plus the exponential. -/
theorem half_tanh_real (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by
    rw [← Real.exp_add]; congr 1; ring
  have h2 : Real.exp (1 / 2 * r) * Real.exp (-(1 / 2 * r)) = 1 := by
    rw [← Real.exp_add]; simp
  have ha := Real.exp_pos (1 / 2 * r)
  have hb := Real.exp_pos (-(1 / 2 * r))
  rw [h1]
  generalize Real.exp (1 / 2 * r) = a at *
  generalize Real.exp (-(1 / 2 * r)) = b at *
  have h3 : 0 < a + b := by positivity
  have h4 : 0 < 1 + b * b := by positivity
  field_simp
  linear_combination (2 * b) * h2

/-- On every extended real the two spellings of the logistic function agree. -/
theorem half_tanh (x : EReal) :
    Ideal.ofBits .f32 1056964608#32 * Ideal.tanh (Ideal.ofBits .f32 1056964608#32 * x) + Ideal.ofBits .f32 1056964608#32
      = Ideal.div 1 (1 + Ideal.exp (-x)) := by
  rw [word_half]
  induction x with
  | bot =>
    rw [EReal.coe_mul_bot_of_pos (by norm_num), Ideal.tanh_bot, EReal.neg_bot]
    show _ = Ideal.div 1 (1 + ⊤)
    rw [show (1 : EReal) + ⊤ = ⊤ from EReal.coe_add_top 1]
    have : Ideal.div 1 ⊤ = 0 := by simp [Ideal.div]
    rw [this, show (-1 : EReal) = ((-1 : ℝ) : EReal) from (by rw [EReal.coe_neg]; rfl), ← EReal.coe_mul, ← EReal.coe_add]
    norm_num
  | top =>
    rw [EReal.coe_mul_top_of_pos (by norm_num), Ideal.tanh_top, EReal.neg_top]
    show _ = Ideal.div 1 (1 + 0)
    have : Ideal.div 1 1 = 1 := by simp [Ideal.div]
    rw [add_zero, this, mul_one, ← EReal.coe_add]
    norm_num
  | coe r =>
    rw [← EReal.coe_mul, Ideal.tanh_coe, ← EReal.coe_mul, ← EReal.coe_add, ← EReal.coe_neg]
    show _ = Ideal.div 1 (1 + ((Real.exp (-r) : ℝ) : EReal))
    rw [show (1 : EReal) = ((1 : ℝ) : EReal) from rfl, ← EReal.coe_add]
    have h : (1 + Real.exp (-r) : ℝ) ≠ 0 := (one_add_exp_pos _).ne'
    rw [Ideal.div_coe h, ← EReal.coe_mul, half_tanh_real]
    norm_num

end Layer

end
-- ==== Proof.Values.BranchGates.lean ====
/-
  The gates of the two branches: the logistic function of a band of the input projection that starts at column 17440.
-/
module

public import proofs.«01_k».proof.Proof.Gen.KernelIdeal.Value
public import proofs.«01_k».proof.Proof.Gen.ReferenceIdeal.Run
public import proofs.«01_k».proof.Proof.Gen.ReferenceIdeal.Read
public import proofs.«01_k».proof.Proof.Values.Common
public import Idealize.ShloMosaic.Lib.Pipeline.Value
public import Idealize.ShloMosaic.Lib.Pointwise

@[expose] public section

set_option maxRecDepth 16384

noncomputable section

namespace Cert.KernelIdeal.RefValue

open Layer Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The activations. -/
abbrev H (c : Dev nD) : FVec Ideal S16384x4096 .bf16 := m ((c : Thread nD τ).loc main_arg0)
/-- The input projection. -/
abbrev W (c : Dev nD) : FVec Ideal S1x4096x25632 .f32 := m ((c : Thread nD τ).loc main_arg1)

/-- The gates the reference computes of the same arguments. -/
abbrev G (c : Dev nD) : FVec Ideal S16384x8192 .bf16 :=
  Cert.ReferenceIdeal.Read.val_main_v10 (F := Ideal) (H m c) (W m c)

/-- The array the second window reads: the projection, transposed. -/
theorem V_main_v2 (c : Dev nD) : V m c main_v2
    = truncf .bf16 (transpose S25632x4096 [1, 0] (shapeCast S4096x25632 (W m c) shapeCasts_S1x4096x25632_S4096x25632) transposes_S4096x25632_S25632x4096_1_0) bitsLt_bf16_f32 := by
  show StableHlo.after hostOps0 (fun b => m (c, b)) (Proc.devRef .tc main_v2) = _
  after_results
  rfl

/-- The block each window is at, in closed form: rows of the activations, rows of the transposed projection from an element offset on, and a tile of the result. -/
theorem idx : ∀ t : Fin cfg0.N, win0_0.index t 0 = t.val / 8 ∧ win0_0.index t 1 = 0
    ∧ win0_1.index t 0 = 17440 + t.val % 8 * 1024 ∧ win0_1.index t 1 = 0
    ∧ win0_2.index t 0 = t.val / 8 ∧ win0_2.index t 1 = t.val % 8 :=
  (by decide +kernel : ∀ t : Fin grid0.N, win0_0.index t 0 = t.val / 8 ∧ win0_0.index t 1 = 0
    ∧ win0_1.index t 0 = 17440 + t.val % 8 * 1024 ∧ win0_1.index t 1 = 0
    ∧ win0_2.index t 0 = t.val / 8 ∧ win0_2.index t 1 = t.val % 8)

/-- A block of activations at an index. -/
theorem lhs_block (c : Dev nD) (t : Fin cfg0.N) (r : Fin 1024) (k : Fin 4096) (hr : t.val / 8 * 1024 + r.val < 16384) :
    iblk m c 0 t (ix2 r k) = H m c (ix2 ⟨t.val / 8 * 1024 + r.val, hr⟩ k) := by
  unfold iblk
  rw [View.read_apply]
  show V m c main_arg0 _ = _
  rw [V_main_arg0]
  show H m c _ = _
  congr 1
  funext a
  apply Fin.ext
  match a with
  | ⟨0, _⟩ => show win0_0.index t 0 * 1024 + 1 * r.val = _; rw [(idx t).1]; simp
  | ⟨1, _⟩ => show win0_0.index t 1 * 4096 + 1 * k.val = _; rw [(idx t).2.1]; simp

/-- A block of the transposed projection at an index: the windows step by single rows, and the first is at an offset that no block size divides. -/
theorem rhs_block (c : Dev nD) (t : Fin cfg0.N) (q : Fin 1024) (k : Fin 4096) (hq : 17440 + t.val % 8 * 1024 + q.val < 25632) :
    iblk m c 1 t (ix2 q k) = W m c (ix3 0 k ⟨17440 + t.val % 8 * 1024 + q.val, hq⟩) := by
  have e : (((cfg0.win 1).blk t).view.emb (ix2 q k) : S25632x4096.Idx) = ix2 ⟨17440 + t.val % 8 * 1024 + q.val, hq⟩ k := by
    funext a
    apply Fin.ext
    match a with
    | ⟨0, _⟩ => show win0_1.index t 0 + 1 * q.val = _; rw [(idx t).2.2.1]; simp
    | ⟨1, _⟩ => show win0_1.index t 1 + 1 * k.val = _; rw [(idx t).2.2.2.1]; simp
  unfold iblk
  rw [View.read_apply]
  show V m c main_v2 _ = _
  rw [e, V_main_v2]
  generalize W m c = w
  pointwise

/-- What a point writes back is its block of the reference's value. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero offsets_zero, View.ld_unit_zero offsets_zero, View.ld_unit_zero offsets_zero]
  funext j
  rw [View.read_apply]
  show k0_pay1 (F := Ideal) (iblk m c 0 t) (iblk m c 1 t) j = G m c _
  idx_vars j
  have ht : t.val < 128 := lt_of_lt_of_eq t.isLt N_0
  have hr : t.val / 8 * 1024 + j0.val < 16384 := by omega
  have hc : t.val % 8 * 1024 + j1.val < 8192 := by omega
  have hq : 17440 + t.val % 8 * 1024 + j1.val < 25632 := by omega
  have e : (((cfg0.win 2).blk t).view.emb (ix2 j0 j1) : S16384x8192.Idx) = ix2 ⟨t.val / 8 * 1024 + j0.val, hr⟩ ⟨t.val % 8 * 1024 + j1.val, hc⟩ := by
    funext a
    apply Fin.ext
    match a with
    | ⟨0, _⟩ => show win0_2.index t 0 * 1024 + 1 * j0.val = _; rw [(idx t).2.2.2.2.1]; simp
    | ⟨1, _⟩ => show win0_2.index t 1 * 1024 + 1 * j1.val = _; rw [(idx t).2.2.2.2.2]; simp
  rw [e]
  unfold k0_pay1 G
  pointwise [Cert.ReferenceIdeal.Read.val_main_v10,
    Cert.ReferenceIdeal.Read.val_main_v9,
    Cert.ReferenceIdeal.Read.val_main_v8,
    Cert.ReferenceIdeal.Read.val_main_v7,
    Cert.ReferenceIdeal.Read.val_main_v6,
    Cert.ReferenceIdeal.Read.val_main_v5,
    Cert.ReferenceIdeal.Read.val_main_v4,
    Cert.ReferenceIdeal.Read.val_main_v3,
    Cert.ReferenceIdeal.Read.val_main_v2,
    Cert.ReferenceIdeal.Read.val_main_v1,
    Cert.ReferenceIdeal.Read.val_main_v0,
    Cert.ReferenceIdeal.Read.val_main_cst,
    Cert.ReferenceIdeal.Read.val_main_cst_0]
  rw [half_tanh]
  simp only [lhs_block m c t _ _ hr, rhs_block m c t _ _ hq, Nat.add_assoc]

/-- Every index of the result lies in some point's block. -/
theorem cover (i : S16384x8192.Idx) : ∃ t : Fin cfg0.N, (cfg0.win 2).flush t = true ∧ i ∈ ((cfg0.win 2).blk t).view.set := by
  have h0 : (i 0).val < 16384 := (i 0).isLt
  have h1 : (i 1).val < 8192 := (i 1).isLt
  let t : Fin cfg0.N := ⟨(i 0).val / 1024 * 8 + (i 1).val / 1024, by show _ < grid0.N; rw [N_0]; omega⟩
  refine ⟨t, flush0_2 t, ?_⟩
  show i ∈ ((View.whole main_v3).slice (win0_2.rect t)).set
  rw [View.set_slice_whole, Rect.mem_set_unit]
  have e0 : win0_2.index t 0 = (i 0).val / 1024 := by rw [(idx t).2.2.2.2.1]; show ((i 0).val / 1024 * 8 + (i 1).val / 1024) / 8 = _; omega
  have e1 : win0_2.index t 1 = (i 1).val / 1024 := by rw [(idx t).2.2.2.2.2]; show ((i 0).val / 1024 * 8 + (i 1).val / 1024) % 8 = _; omega
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- So the result array ends at the reference's value, -/
theorem final (c : Dev nD) : (dats m 0 c).arrAt 2 cfg0.N = G m c :=
  (dats m 0 c).arrAt_eq_of_cover 2 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelIdeal.RefValue

end
-- ==== Proof.Values.MlstmQK.lean ====
/-
  The queries and keys of the recurrent branch: the band of the input projection that starts at column 9216.
-/
module

public import proofs.«01_k».proof.Proof.Gen.KernelQKIdeal.Value
public import proofs.«01_k».proof.Proof.Gen.ReferenceQKIdeal.Run
public import proofs.«01_k».proof.Proof.Gen.ReferenceQKIdeal.Read
public import proofs.«01_k».proof.Proof.Values.Common
public import Idealize.ShloMosaic.Lib.Pipeline.Value
public import Idealize.ShloMosaic.Lib.Pointwise

@[expose] public section

set_option maxRecDepth 16384

noncomputable section

namespace Cert.KernelQKIdeal.RefValue

open Layer Cert.KernelQKIdeal Cert.KernelQKIdeal.Gen Idealize.ShloMosaic Idealize.ShloMosaic.TcCoe Idealize.SL.Sem
open Idealize.ShloMosaic.Pipeline (Dat)

variable (m : (ℓ : Loc nD τ sig) → Buf (Elt Ideal) ℓ)

/-- The activations. -/
abbrev H (c : Dev nD) : FVec Ideal S16384x4096 .bf16 := m ((c : Thread nD τ).loc main_arg0)
/-- The input projection. -/
abbrev W (c : Dev nD) : FVec Ideal S1x4096x25632 .f32 := m ((c : Thread nD τ).loc main_arg1)

/-- The queries and keys the reference computes of the same arguments. -/
abbrev G (c : Dev nD) : FVec Ideal S16384x4096 .bf16 :=
  Cert.ReferenceQKIdeal.Read.val_main_v4 (F := Ideal) (H m c) (W m c)

/-- The array the second window reads: the projection, transposed. -/
theorem V_main_v2 (c : Dev nD) : V m c main_v2
    = truncf .bf16 (transpose S25632x4096 [1, 0] (shapeCast S4096x25632 (W m c) shapeCasts_S1x4096x25632_S4096x25632) transposes_S4096x25632_S25632x4096_1_0) bitsLt_bf16_f32 := by
  show StableHlo.after hostOps0 (fun b => m (c, b)) (Proc.devRef .tc main_v2) = _
  after_results
  rfl

/-- The block each window is at, in closed form: rows of the activations, rows of the transposed projection from an element offset on, and a tile of the result. -/
theorem idx : ∀ t : Fin cfg0.N, win0_0.index t 0 = t.val / 4 ∧ win0_0.index t 1 = 0
    ∧ win0_1.index t 0 = 9216 + t.val % 4 * 1024 ∧ win0_1.index t 1 = 0
    ∧ win0_2.index t 0 = t.val / 4 ∧ win0_2.index t 1 = t.val % 4 :=
  (by decide +kernel : ∀ t : Fin grid0.N, win0_0.index t 0 = t.val / 4 ∧ win0_0.index t 1 = 0
    ∧ win0_1.index t 0 = 9216 + t.val % 4 * 1024 ∧ win0_1.index t 1 = 0
    ∧ win0_2.index t 0 = t.val / 4 ∧ win0_2.index t 1 = t.val % 4)

/-- A block of activations at an index. -/
theorem lhs_block (c : Dev nD) (t : Fin cfg0.N) (r : Fin 1024) (k : Fin 4096) (hr : t.val / 4 * 1024 + r.val < 16384) :
    iblk m c 0 t (ix2 r k) = H m c (ix2 ⟨t.val / 4 * 1024 + r.val, hr⟩ k) := by
  unfold iblk
  rw [View.read_apply]
  show V m c main_arg0 _ = _
  rw [V_main_arg0]
  show H m c _ = _
  congr 1
  funext a
  apply Fin.ext
  match a with
  | ⟨0, _⟩ => show win0_0.index t 0 * 1024 + 1 * r.val = _; rw [(idx t).1]; simp
  | ⟨1, _⟩ => show win0_0.index t 1 * 4096 + 1 * k.val = _; rw [(idx t).2.1]; simp

/-- A block of the transposed projection at an index: the windows step by single rows, and the first is at an offset that no block size divides. -/
theorem rhs_block (c : Dev nD) (t : Fin cfg0.N) (q : Fin 1024) (k : Fin 4096) (hq : 9216 + t.val % 4 * 1024 + q.val < 25632) :
    iblk m c 1 t (ix2 q k) = W m c (ix3 0 k ⟨9216 + t.val % 4 * 1024 + q.val, hq⟩) := by
  have e : (((cfg0.win 1).blk t).view.emb (ix2 q k) : S25632x4096.Idx) = ix2 ⟨9216 + t.val % 4 * 1024 + q.val, hq⟩ k := by
    funext a
    apply Fin.ext
    match a with
    | ⟨0, _⟩ => show win0_1.index t 0 + 1 * q.val = _; rw [(idx t).2.2.1]; simp
    | ⟨1, _⟩ => show win0_1.index t 1 + 1 * k.val = _; rw [(idx t).2.2.2.1]; simp
  unfold iblk
  rw [View.read_apply]
  show V m c main_v2 _ = _
  rw [e, V_main_v2]
  generalize W m c = w
  pointwise

/-- What a point writes back is its block of the reference's value. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero offsets_zero, View.ld_unit_zero offsets_zero, View.ld_unit_zero offsets_zero]
  funext j
  rw [View.read_apply]
  show k0_pay1 (F := Ideal) (iblk m c 0 t) (iblk m c 1 t) j = G m c _
  idx_vars j
  have ht : t.val < 64 := lt_of_lt_of_eq t.isLt N_0
  have hr : t.val / 4 * 1024 + j0.val < 16384 := by omega
  have hc : t.val % 4 * 1024 + j1.val < 4096 := by omega
  have hq : 9216 + t.val % 4 * 1024 + j1.val < 25632 := by omega
  have e : (((cfg0.win 2).blk t).view.emb (ix2 j0 j1) : S16384x4096.Idx) = ix2 ⟨t.val / 4 * 1024 + j0.val, hr⟩ ⟨t.val % 4 * 1024 + j1.val, hc⟩ := by
    funext a
    apply Fin.ext
    match a with
    | ⟨0, _⟩ => show win0_2.index t 0 * 1024 + 1 * j0.val = _; rw [(idx t).2.2.2.2.1]; simp
    | ⟨1, _⟩ => show win0_2.index t 1 * 1024 + 1 * j1.val = _; rw [(idx t).2.2.2.2.2]; simp
  rw [e]
  unfold k0_pay1 G
  pointwise [Cert.ReferenceQKIdeal.Read.val_main_v4, Cert.ReferenceQKIdeal.Read.val_main_v3, Cert.ReferenceQKIdeal.Read.val_main_v2, Cert.ReferenceQKIdeal.Read.val_main_v1, Cert.ReferenceQKIdeal.Read.val_main_v0]
  simp only [lhs_block m c t _ _ hr, rhs_block m c t _ _ hq, Nat.add_assoc]

/-- Every index of the result lies in some point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  let t : Fin cfg0.N := ⟨(i 0).val / 1024 * 4 + (i 1).val / 1024, by show _ < grid0.N; rw [N_0]; omega⟩
  refine ⟨t, flush0_2 t, ?_⟩
  show i ∈ ((View.whole main_v3).slice (win0_2.rect t)).set
  rw [View.set_slice_whole, Rect.mem_set_unit]
  have e0 : win0_2.index t 0 = (i 0).val / 1024 := by rw [(idx t).2.2.2.2.1]; show ((i 0).val / 1024 * 4 + (i 1).val / 1024) / 4 = _; omega
  have e1 : win0_2.index t 1 = (i 1).val / 1024 := by rw [(idx t).2.2.2.2.2]; show ((i 0).val / 1024 * 4 + (i 1).val / 1024) % 4 = _; omega
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- So the result array ends at the reference's value, -/
theorem final (c : Dev nD) : (dats m 0 c).arrAt 2 cfg0.N = G m c :=
  (dats m 0 c).arrAt_eq_of_cover 2 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelQKIdeal.RefValue

end
-- ==== Proof.Values.MlstmVO.lean ====
/-
  The values and output gates of the recurrent branch: the band of the input projection that starts at column 13312.
-/
module

public import proofs.«01_k».proof.Proof.Gen.KernelVOIdeal.Value
public import proofs.«01_k».proof.Proof.Gen.ReferenceVOIdeal.Run
public import proofs.«01_k».proof.Proof.Gen.ReferenceVOIdeal.Read
public import proofs.«01_k».proof.Proof.Values.Common
public import Idealize.ShloMosaic.Lib.Pipeline.Value
public import Idealize.ShloMosaic.Lib.Pointwise

@[expose] public section

set_option maxRecDepth 16384

noncomputable section

namespace Cert.KernelVOIdeal.RefValue

open Layer Cert.KernelVOIdeal Cert.KernelVOIdeal.Gen Idealize.ShloMosaic Idealize.ShloMosaic.TcCoe Idealize.SL.Sem
open Idealize.ShloMosaic.Pipeline (Dat)

variable (m : (ℓ : Loc nD τ sig) → Buf (Elt Ideal) ℓ)

/-- The activations. -/
abbrev H (c : Dev nD) : FVec Ideal S16384x4096 .bf16 := m ((c : Thread nD τ).loc main_arg0)
/-- The input projection. -/
abbrev W (c : Dev nD) : FVec Ideal S1x4096x25632 .f32 := m ((c : Thread nD τ).loc main_arg1)

/-- The values and output gates the reference computes of the same arguments. -/
abbrev G (c : Dev nD) : FVec Ideal S16384x4096 .bf16 :=
  Cert.ReferenceVOIdeal.Read.val_main_v4 (F := Ideal) (H m c) (W m c)

/-- The array the second window reads: the projection, transposed. -/
theorem V_main_v2 (c : Dev nD) : V m c main_v2
    = truncf .bf16 (transpose S25632x4096 [1, 0] (shapeCast S4096x25632 (W m c) shapeCasts_S1x4096x25632_S4096x25632) transposes_S4096x25632_S25632x4096_1_0) bitsLt_bf16_f32 := by
  show StableHlo.after hostOps0 (fun b => m (c, b)) (Proc.devRef .tc main_v2) = _
  after_results
  rfl

/-- The block each window is at, in closed form: rows of the activations, rows of the transposed projection from an element offset on, and a tile of the result. -/
theorem idx : ∀ t : Fin cfg0.N, win0_0.index t 0 = t.val / 4 ∧ win0_0.index t 1 = 0
    ∧ win0_1.index t 0 = 13312 + t.val % 4 * 1024 ∧ win0_1.index t 1 = 0
    ∧ win0_2.index t 0 = t.val / 4 ∧ win0_2.index t 1 = t.val % 4 :=
  (by decide +kernel : ∀ t : Fin grid0.N, win0_0.index t 0 = t.val / 4 ∧ win0_0.index t 1 = 0
    ∧ win0_1.index t 0 = 13312 + t.val % 4 * 1024 ∧ win0_1.index t 1 = 0
    ∧ win0_2.index t 0 = t.val / 4 ∧ win0_2.index t 1 = t.val % 4)

/-- A block of activations at an index. -/
theorem lhs_block (c : Dev nD) (t : Fin cfg0.N) (r : Fin 1024) (k : Fin 4096) (hr : t.val / 4 * 1024 + r.val < 16384) :
    iblk m c 0 t (ix2 r k) = H m c (ix2 ⟨t.val / 4 * 1024 + r.val, hr⟩ k) := by
  unfold iblk
  rw [View.read_apply]
  show V m c main_arg0 _ = _
  rw [V_main_arg0]
  show H m c _ = _
  congr 1
  funext a
  apply Fin.ext
  match a with
  | ⟨0, _⟩ => show win0_0.index t 0 * 1024 + 1 * r.val = _; rw [(idx t).1]; simp
  | ⟨1, _⟩ => show win0_0.index t 1 * 4096 + 1 * k.val = _; rw [(idx t).2.1]; simp

/-- A block of the transposed projection at an index: the windows step by single rows, and the first is at an offset that no block size divides. -/
theorem rhs_block (c : Dev nD) (t : Fin cfg0.N) (q : Fin 1024) (k : Fin 4096) (hq : 13312 + t.val % 4 * 1024 + q.val < 25632) :
    iblk m c 1 t (ix2 q k) = W m c (ix3 0 k ⟨13312 + t.val % 4 * 1024 + q.val, hq⟩) := by
  have e : (((cfg0.win 1).blk t).view.emb (ix2 q k) : S25632x4096.Idx) = ix2 ⟨13312 + t.val % 4 * 1024 + q.val, hq⟩ k := by
    funext a
    apply Fin.ext
    match a with
    | ⟨0, _⟩ => show win0_1.index t 0 + 1 * q.val = _; rw [(idx t).2.2.1]; simp
    | ⟨1, _⟩ => show win0_1.index t 1 + 1 * k.val = _; rw [(idx t).2.2.2.1]; simp
  unfold iblk
  rw [View.read_apply]
  show V m c main_v2 _ = _
  rw [e, V_main_v2]
  generalize W m c = w
  pointwise

/-- What a point writes back is its block of the reference's value. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero offsets_zero, View.ld_unit_zero offsets_zero, View.ld_unit_zero offsets_zero]
  funext j
  rw [View.read_apply]
  show k0_pay1 (F := Ideal) (iblk m c 0 t) (iblk m c 1 t) j = G m c _
  idx_vars j
  have ht : t.val < 64 := lt_of_lt_of_eq t.isLt N_0
  have hr : t.val / 4 * 1024 + j0.val < 16384 := by omega
  have hc : t.val % 4 * 1024 + j1.val < 4096 := by omega
  have hq : 13312 + t.val % 4 * 1024 + j1.val < 25632 := by omega
  have e : (((cfg0.win 2).blk t).view.emb (ix2 j0 j1) : S16384x4096.Idx) = ix2 ⟨t.val / 4 * 1024 + j0.val, hr⟩ ⟨t.val % 4 * 1024 + j1.val, hc⟩ := by
    funext a
    apply Fin.ext
    match a with
    | ⟨0, _⟩ => show win0_2.index t 0 * 1024 + 1 * j0.val = _; rw [(idx t).2.2.2.2.1]; simp
    | ⟨1, _⟩ => show win0_2.index t 1 * 1024 + 1 * j1.val = _; rw [(idx t).2.2.2.2.2]; simp
  rw [e]
  unfold k0_pay1 G
  pointwise [Cert.ReferenceVOIdeal.Read.val_main_v4, Cert.ReferenceVOIdeal.Read.val_main_v3, Cert.ReferenceVOIdeal.Read.val_main_v2, Cert.ReferenceVOIdeal.Read.val_main_v1, Cert.ReferenceVOIdeal.Read.val_main_v0]
  simp only [lhs_block m c t _ _ hr, rhs_block m c t _ _ hq, Nat.add_assoc]

/-- Every index of the result lies in some point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  let t : Fin cfg0.N := ⟨(i 0).val / 1024 * 4 + (i 1).val / 1024, by show _ < grid0.N; rw [N_0]; omega⟩
  refine ⟨t, flush0_2 t, ?_⟩
  show i ∈ ((View.whole main_v3).slice (win0_2.rect t)).set
  rw [View.set_slice_whole, Rect.mem_set_unit]
  have e0 : win0_2.index t 0 = (i 0).val / 1024 := by rw [(idx t).2.2.2.2.1]; show ((i 0).val / 1024 * 4 + (i 1).val / 1024) / 4 = _; omega
  have e1 : win0_2.index t 1 = (i 1).val / 1024 := by rw [(idx t).2.2.2.2.2]; show ((i 0).val / 1024 * 4 + (i 1).val / 1024) % 4 = _; omega
  intro a
  match a with
  | ⟨0, _⟩ => show win0_2.index t 0 * 1024 ≤ (i 0).val ∧ (i 0).val < win0_2.index t 0 * 1024 + 1024; omega
  | ⟨1, _⟩ => show win0_2.index t 1 * 1024 ≤ (i 1).val ∧ (i 1).val < win0_2.index t 1 * 1024 + 1024; omega

/-- So the result array ends at the reference's value, -/
theorem final (c : Dev nD) : (dats m 0 c).arrAt 2 cfg0.N = G m c :=
  (dats m 0 c).arrAt_eq_of_cover 2 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelVOIdeal.RefValue

end
-- ==== Proof.Values.MlstmGates.lean ====
/-
  The input and forget gates of the recurrent branch, before their nonlinearity: thirty-two columns of the input
  projection, the result transposed.
-/
module

public import proofs.«01_k».proof.Proof.Gen.KernelGatesIdeal.Value
public import proofs.«01_k».proof.Proof.Gen.ReferenceGatesIdeal.Run
public import proofs.«01_k».proof.Proof.Gen.ReferenceGatesIdeal.Read
public import proofs.«01_k».proof.Proof.Values.Common
public import Idealize.ShloMosaic.Lib.Pipeline.Value
public import Idealize.ShloMosaic.Lib.Pointwise

@[expose] public section

set_option maxRecDepth 16384

noncomputable section

namespace Cert.KernelGatesIdeal.RefValue

open Layer Cert.KernelGatesIdeal Cert.KernelGatesIdeal.Gen Idealize.ShloMosaic Idealize.ShloMosaic.TcCoe Idealize.SL.Sem
open Idealize.ShloMosaic.Pipeline (Dat)

variable (m : (ℓ : Loc nD τ sig) → Buf (Elt Ideal) ℓ)

/-- The activations. -/
abbrev H (c : Dev nD) : FVec Ideal S16384x4096 .bf16 := m ((c : Thread nD τ).loc main_arg0)
/-- The input projection. -/
abbrev W (c : Dev nD) : FVec Ideal S1x4096x25632 .f32 := m ((c : Thread nD τ).loc main_arg1)

/-- What the reference computes of the same arguments. -/
abbrev G (c : Dev nD) : FVec Ideal S32x16384 .f32 :=
  Cert.ReferenceGatesIdeal.Read.val_main_v4 (F := Ideal) (H m c) (W m c)

/-- The thirty-two rows of the transposed projection as the region finds them. -/
theorem V_main_v3 (c : Dev nD) : V m c main_v3
    = extractStridedSlice S32x4096 ![17408, 0] (truncf .bf16 (transpose S25632x4096 [1, 0] (shapeCast S4096x25632 (W m c) shapeCasts_S1x4096x25632_S4096x25632) transposes_S4096x25632_S25632x4096_1_0) bitsLt_bf16_f32) slices_S25632x4096_S32x4096_17408_0 := by
  show StableHlo.after hostOps0 (fun b => m (c, b)) (Proc.devRef .tc main_v3) = _
  after_results
  rfl

/-- The block each window is at: all the gate rows, a stretch of activations from an element offset on, a stretch of the result. -/
theorem idx : ∀ t : Fin cfg0.N, win0_0.index t 0 = 0 ∧ win0_0.index t 1 = 0
    ∧ win0_1.index t 0 = t.val * 1024 ∧ win0_1.index t 1 = 0
    ∧ win0_2.index t 0 = 0 ∧ win0_2.index t 1 = t.val :=
  (by decide +kernel : ∀ t : Fin grid0.N, win0_0.index t 0 = 0 ∧ win0_0.index t 1 = 0
    ∧ win0_1.index t 0 = t.val * 1024 ∧ win0_1.index t 1 = 0
    ∧ win0_2.index t 0 = 0 ∧ win0_2.index t 1 = t.val)

/-- The gate rows at an index. -/
theorem w_block (c : Dev nD) (t : Fin cfg0.N) (r : Fin 32) (q : Fin 4096) :
    iblk m c 0 t (ix2 r q) = W m c (ix3 0 q ⟨17408 + r.val, by omega⟩) := by
  have e : (((cfg0.win 0).blk t).view.emb (ix2 r q) : S32x4096.Idx) = ix2 r q := by
    funext a
    apply Fin.ext
    match a with
    | ⟨0, _⟩ => show win0_0.index t 0 * 32 + 1 * r.val = _; rw [(idx t).1]; simp
    | ⟨1, _⟩ => show win0_0.index t 1 * 4096 + 1 * q.val = _; rw [(idx t).2.1]; simp
  unfold iblk
  rw [View.read_apply]
  show V m c main_v3 _ = _
  rw [e, V_main_v3]
  generalize W m c = w
  pointwise

/-- A block of activations at an index. -/
theorem h_block (c : Dev nD) (t : Fin cfg0.N) (r : Fin 1024) (q : Fin 4096) (hr : t.val * 1024 + r.val < 16384) :
    iblk m c 1 t (ix2 r q) = H m c (ix2 ⟨t.val * 1024 + r.val, hr⟩ q) := by
  unfold iblk
  rw [View.read_apply]
  show V m c main_arg0 _ = _
  rw [V_main_arg0]
  show H m c _ = _
  congr 1
  funext a
  apply Fin.ext
  match a with
  | ⟨0, _⟩ => show win0_1.index t 0 + 1 * r.val = _; rw [(idx t).2.2.1]; simp
  | ⟨1, _⟩ => show win0_1.index t 1 + 1 * q.val = _; rw [(idx t).2.2.2.1]; simp

/-- What a point writes back is its block of the reference's value. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero offsets_zero, View.ld_unit_zero offsets_zero, View.ld_unit_zero offsets_zero]
  funext j
  rw [View.read_apply]
  show k0_pay1 (F := Ideal) (iblk m c 0 t) (iblk m c 1 t) j = G m c _
  idx_vars j
  have ht : t.val < 16 := lt_of_lt_of_eq t.isLt N_0
  have hr : t.val * 1024 + j1.val < 16384 := by omega
  have e : (((cfg0.win 2).blk t).view.emb (ix2 j0 j1) : S32x16384.Idx) = ix2 j0 ⟨t.val * 1024 + j1.val, hr⟩ := by
    funext a
    apply Fin.ext
    match a with
    | ⟨0, _⟩ => show win0_2.index t 0 * 32 + 1 * j0.val = _; rw [(idx t).2.2.2.2.1]; simp
    | ⟨1, _⟩ => show win0_2.index t 1 * 1024 + 1 * j1.val = _; rw [(idx t).2.2.2.2.2]; simp
  rw [e]
  unfold k0_pay1 G
  pointwise [Cert.ReferenceGatesIdeal.Read.val_main_v4,
    Cert.ReferenceGatesIdeal.Read.val_main_v3,
    Cert.ReferenceGatesIdeal.Read.val_main_v2,
    Cert.ReferenceGatesIdeal.Read.val_main_v1,
    Cert.ReferenceGatesIdeal.Read.val_main_v0]
  simp only [w_block m c t, h_block m c t _ _ hr]
  exact Finset.sum_congr rfl fun _ _ => mul_comm _ _

/-- Every index of the result lies in some point's block. -/
theorem cover (i : S32x16384.Idx) : ∃ t : Fin cfg0.N, (cfg0.win 2).flush t = true ∧ i ∈ ((cfg0.win 2).blk t).view.set := by
  have h0 : (i 0).val < 32 := (i 0).isLt
  have h1 : (i 1).val < 16384 := (i 1).isLt
  let t : Fin cfg0.N := ⟨(i 1).val / 1024, by show _ < grid0.N; rw [N_0]; omega⟩
  refine ⟨t, flush0_2 t, ?_⟩
  show i ∈ ((View.whole main_v4).slice (win0_2.rect t)).set
  rw [View.set_slice_whole, Rect.mem_set_unit]
  have e0 : win0_2.index t 0 = 0 := by rw [(idx t).2.2.2.2.1]
  have e1 : win0_2.index t 1 = (i 1).val / 1024 := by rw [(idx t).2.2.2.2.2]
  intro a
  match a with
  | ⟨0, _⟩ => show win0_2.index t 0 * 32 ≤ (i 0).val ∧ (i 0).val < win0_2.index t 0 * 32 + 32; omega
  | ⟨1, _⟩ => show win0_2.index t 1 * 1024 ≤ (i 1).val ∧ (i 1).val < win0_2.index t 1 * 1024 + 1024; omega

/-- So the result array ends at the reference's value, -/
theorem final (c : Dev nD) : (dats m 0 c).arrAt 2 cfg0.N = G m c :=
  (dats m 0 c).arrAt_eq_of_cover 2 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelGatesIdeal.RefValue

end
-- ==== Proof.Values.GateUp.lean ====
/-
  The first half of a feed-forward: the two projections of the normed activations, the first through the logistic unit,
  times the second.
-/
module

public import proofs.«01_k».proof.Proof.Gen.KernelGateUpIdeal.Value
public import proofs.«01_k».proof.Proof.Gen.ReferenceGateUpIdeal.Run
public import proofs.«01_k».proof.Proof.Gen.ReferenceGateUpIdeal.Read
public import proofs.«01_k».proof.Proof.Values.Common
public import Idealize.ShloMosaic.Lib.Pipeline.Value
public import Idealize.ShloMosaic.Lib.Pointwise

@[expose] public section

set_option maxRecDepth 16384

noncomputable section

namespace Cert.KernelGateUpIdeal.RefValue

open Layer Cert.KernelGateUpIdeal Cert.KernelGateUpIdeal.Gen Idealize.ShloMosaic Idealize.ShloMosaic.TcCoe Idealize.SL.Sem
open Idealize.ShloMosaic.Pipeline (Dat)

variable (m : (ℓ : Loc nD τ sig) → Buf (Elt Ideal) ℓ)

/-- The normed activations. -/
abbrev H (c : Dev nD) : FVec Ideal S16384x4096 .bf16 := m ((c : Thread nD τ).loc main_arg0)
/-- The gate projection. -/
abbrev WG (c : Dev nD) : FVec Ideal S1x4096x11008 .f32 := m ((c : Thread nD τ).loc main_arg1)
/-- The up projection. -/
abbrev WU (c : Dev nD) : FVec Ideal S1x4096x11008 .f32 := m ((c : Thread nD τ).loc main_arg2)

/-- What the reference computes of the same arguments. -/
abbrev G (c : Dev nD) : FVec Ideal S16384x11008 .bf16 :=
  Cert.ReferenceGateUpIdeal.Read.val_main_v7 (F := Ideal) (H m c) (WG m c) (WU m c)

/-- The gate projection as the region finds it. -/
theorem V_main_v0 (c : Dev nD) : V m c main_v0
    = shapeCast S4096x11008 (WG m c) shapeCasts_S1x4096x11008_S4096x11008 := by
  show StableHlo.after hostOps0 (fun b => m (c, b)) (Proc.devRef .tc main_v0) = _
  after_results
  rfl

/-- The up projection as the region finds it. -/
theorem V_main_v1 (c : Dev nD) : V m c main_v1
    = shapeCast S4096x11008 (WU m c) shapeCasts_S1x4096x11008_S4096x11008 := by
  show StableHlo.after hostOps0 (fun b => m (c, b)) (Proc.devRef .tc main_v1) = _
  after_results
  rfl

/-- The block each window is at: a row of activation blocks, a column of each projection, a tile of the result. -/
theorem idx : ∀ t : Fin cfg0.N, win0_0.index t 0 = t.val / 43 ∧ win0_0.index t 1 = 0
    ∧ win0_1.index t 0 = 0 ∧ win0_1.index t 1 = t.val % 43
    ∧ win0_2.index t 0 = 0 ∧ win0_2.index t 1 = t.val % 43
    ∧ win0_3.index t 0 = t.val / 43 ∧ win0_3.index t 1 = t.val % 43 :=
  (by decide +kernel : ∀ t : Fin grid0.N, win0_0.index t 0 = t.val / 43 ∧ win0_0.index t 1 = 0
    ∧ win0_1.index t 0 = 0 ∧ win0_1.index t 1 = t.val % 43
    ∧ win0_2.index t 0 = 0 ∧ win0_2.index t 1 = t.val % 43
    ∧ win0_3.index t 0 = t.val / 43 ∧ win0_3.index t 1 = t.val % 43)

/-- A block of activations at an index. -/
theorem h_block (c : Dev nD) (t : Fin cfg0.N) (r : Fin 2048) (q : Fin 4096) (hr : t.val / 43 * 2048 + r.val < 16384) :
    iblk m c 0 t (ix2 r q) = H m c (ix2 ⟨t.val / 43 * 2048 + r.val, hr⟩ q) := by
  unfold iblk
  rw [View.read_apply]
  show V m c main_arg0 _ = _
  rw [V_main_arg0]
  show H m c _ = _
  congr 1
  funext a
  apply Fin.ext
  match a with
  | ⟨0, _⟩ => show win0_0.index t 0 * 2048 + 1 * r.val = _; rw [(idx t).1]; simp
  | ⟨1, _⟩ => show win0_0.index t 1 * 4096 + 1 * q.val = _; rw [(idx t).2.1]; simp

/-- A block of the projection at an index. -/
theorem gate_block (c : Dev nD) (t : Fin cfg0.N) (r : Fin 4096) (q : Fin 256) (hq : t.val % 43 * 256 + q.val < 11008) :
    iblk m c 1 t (ix2 r q) = WG m c (ix3 0 r ⟨t.val % 43 * 256 + q.val, hq⟩) := by
  have e : (((cfg0.win 1).blk t).view.emb (ix2 r q) : S4096x11008.Idx) = ix2 r ⟨t.val % 43 * 256 + q.val, hq⟩ := by
    funext a
    apply Fin.ext
    match a with
    | ⟨0, _⟩ => show win0_1.index t 0 * 4096 + 1 * r.val = _; rw [(idx t).2.2.1]; simp
    | ⟨1, _⟩ => show win0_1.index t 1 * 256 + 1 * q.val = _; rw [(idx t).2.2.2.1]; simp
  unfold iblk
  rw [View.read_apply]
  show V m c main_v0 _ = _
  rw [e, V_main_v0]
  generalize WG m c = w
  pointwise

/-- A block of the projection at an index. -/
theorem up_block (c : Dev nD) (t : Fin cfg0.N) (r : Fin 4096) (q : Fin 256) (hq : t.val % 43 * 256 + q.val < 11008) :
    iblk m c 2 t (ix2 r q) = WU m c (ix3 0 r ⟨t.val % 43 * 256 + q.val, hq⟩) := by
  have e : (((cfg0.win 2).blk t).view.emb (ix2 r q) : S4096x11008.Idx) = ix2 r ⟨t.val % 43 * 256 + q.val, hq⟩ := by
    funext a
    apply Fin.ext
    match a with
    | ⟨0, _⟩ => show win0_2.index t 0 * 4096 + 1 * r.val = _; rw [(idx t).2.2.2.2.1]; simp
    | ⟨1, _⟩ => show win0_2.index t 1 * 256 + 1 * q.val = _; rw [(idx t).2.2.2.2.2.1]; simp
  unfold iblk
  rw [View.read_apply]
  show V m c main_v1 _ = _
  rw [e, V_main_v1]
  generalize WU m c = w
  pointwise

/-- What a point writes back is its block of the reference's value. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero offsets_zero, View.ld_unit_zero offsets_zero, View.ld_unit_zero offsets_zero, View.ld_unit_zero offsets_zero]
  funext j
  rw [View.read_apply]
  show k0_pay1 (F := Ideal) (iblk m c 0 t) (iblk m c 1 t) (iblk m c 0 t) (iblk m c 2 t) j = G m c _
  idx_vars j
  have ht : t.val < 344 := lt_of_lt_of_eq t.isLt N_0
  have hr : t.val / 43 * 2048 + j0.val < 16384 := by omega
  have hq : t.val % 43 * 256 + j1.val < 11008 := by omega
  have e : (((cfg0.win 3).blk t).view.emb (ix2 j0 j1) : S16384x11008.Idx) = ix2 ⟨t.val / 43 * 2048 + j0.val, hr⟩ ⟨t.val % 43 * 256 + j1.val, hq⟩ := by
    funext a
    apply Fin.ext
    match a with
    | ⟨0, _⟩ => show win0_3.index t 0 * 2048 + 1 * j0.val = _; rw [(idx t).2.2.2.2.2.2.1]; simp
    | ⟨1, _⟩ => show win0_3.index t 1 * 256 + 1 * j1.val = _; rw [(idx t).2.2.2.2.2.2.2]; simp
  rw [e]
  unfold k0_pay1 G
  pointwise [Cert.ReferenceGateUpIdeal.Read.val_main_v7,
    Cert.ReferenceGateUpIdeal.Read.val_main_v6,
    Cert.ReferenceGateUpIdeal.Read.val_main_v5,
    Cert.ReferenceGateUpIdeal.Read.val_main_v4,
    Cert.ReferenceGateUpIdeal.Read.val_main_v3,
    Cert.ReferenceGateUpIdeal.Read.val_main_v2,
    Cert.ReferenceGateUpIdeal.Read.val_main_v1,
    Cert.ReferenceGateUpIdeal.Read.val_main_v0,
    Cert.ReferenceGateUpIdeal.Read.val_main_call0_v5,
    Cert.ReferenceGateUpIdeal.Read.val_main_call0_v4,
    Cert.ReferenceGateUpIdeal.Read.val_main_call0_v3,
    Cert.ReferenceGateUpIdeal.Read.val_main_call0_v2,
    Cert.ReferenceGateUpIdeal.Read.val_main_call0_v1,
    Cert.ReferenceGateUpIdeal.Read.val_main_call0_v0,
    Cert.ReferenceGateUpIdeal.Read.val_main_call0_cst,
    Cert.ReferenceGateUpIdeal.Read.val_main_call0_cst_0]
  rw [half_tanh]
  simp only [h_block m c t _ _ hr, gate_block m c t _ _ hq, up_block m c t _ _ hq]

/-- Every index of the result lies in some point's block. -/
theorem cover (i : S16384x11008.Idx) : ∃ t : Fin cfg0.N, (cfg0.win 3).flush t = true ∧ i ∈ ((cfg0.win 3).blk t).view.set := by
  have h0 : (i 0).val < 16384 := (i 0).isLt
  have h1 : (i 1).val < 11008 := (i 1).isLt
  let t : Fin cfg0.N := ⟨(i 0).val / 2048 * 43 + (i 1).val / 256, by show _ < grid0.N; rw [N_0]; omega⟩
  refine ⟨t, flush0_3 t, ?_⟩
  show i ∈ ((View.whole main_v2).slice (win0_3.rect t)).set
  rw [View.set_slice_whole, Rect.mem_set_unit]
  have e0 : win0_3.index t 0 = (i 0).val / 2048 := by rw [(idx t).2.2.2.2.2.2.1]; show ((i 0).val / 2048 * 43 + (i 1).val / 256) / 43 = _; omega
  have e1 : win0_3.index t 1 = (i 1).val / 256 := by rw [(idx t).2.2.2.2.2.2.2]; show ((i 0).val / 2048 * 43 + (i 1).val / 256) % 43 = _; omega
  intro a
  match a with
  | ⟨0, _⟩ => show win0_3.index t 0 * 2048 ≤ (i 0).val ∧ (i 0).val < win0_3.index t 0 * 2048 + 2048; omega
  | ⟨1, _⟩ => show win0_3.index t 1 * 256 ≤ (i 1).val ∧ (i 1).val < win0_3.index t 1 * 256 + 256; omega

/-- So the result array ends at the reference's value, -/
theorem final (c : Dev nD) : (dats m 0 c).arrAt 3 cfg0.N = G m c :=
  (dats m 0 c).arrAt_eq_of_cover 3 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelGateUpIdeal.RefValue

end
-- ==== Proof.Values.Down.lean ====
/-
  The second half of a feed-forward: the product brought back to the width of the model, halved and added to the
  residual.
-/
module

public import proofs.«01_k».proof.Proof.Gen.KernelDownIdeal.Value
public import proofs.«01_k».proof.Proof.Gen.ReferenceDownIdeal.Run
public import proofs.«01_k».proof.Proof.Gen.ReferenceDownIdeal.Read
public import proofs.«01_k».proof.Proof.Values.Common
public import Idealize.ShloMosaic.Lib.Pipeline.Value
public import Idealize.ShloMosaic.Lib.Pointwise

@[expose] public section

set_option maxRecDepth 16384

noncomputable section

namespace Cert.KernelDownIdeal.RefValue

open Layer Cert.KernelDownIdeal Cert.KernelDownIdeal.Gen Idealize.ShloMosaic Idealize.ShloMosaic.TcCoe Idealize.SL.Sem
open Idealize.ShloMosaic.Pipeline (Dat)

variable (m : (ℓ : Loc nD τ sig) → Buf (Elt Ideal) ℓ)

/-- The product of the two branches of the feed-forward. -/
abbrev T (c : Dev nD) : FVec Ideal S16384x11008 .bf16 := m ((c : Thread nD τ).loc main_arg0)
/-- The down projection. -/
abbrev WD (c : Dev nD) : FVec Ideal S1x11008x4096 .f32 := m ((c : Thread nD τ).loc main_arg1)
/-- The residual. -/
abbrev X (c : Dev nD) : FVec Ideal S16384x4096 .f32 := m ((c : Thread nD τ).loc main_arg2)

/-- What the reference computes of the same arguments. -/
abbrev G (c : Dev nD) : FVec Ideal S16384x4096 .f32 :=
  Cert.ReferenceDownIdeal.Read.val_main_v5 (F := Ideal) (T m c) (WD m c) (X m c)

/-- The down projection as the region finds it. -/
theorem V_main_v1 (c : Dev nD) : V m c main_v1
    = truncf .bf16 (shapeCast S11008x4096 (WD m c) shapeCasts_S1x11008x4096_S11008x4096) bitsLt_bf16_f32 := by
  show StableHlo.after hostOps0 (fun b => m (c, b)) (Proc.devRef .tc main_v1) = _
  after_results
  rfl

/-- The block each window is at: the grid runs over the columns of the result outside, over its rows inside. -/
theorem idx : ∀ t : Fin cfg0.N, win0_0.index t 0 = t.val % 32 ∧ win0_0.index t 1 = 0
    ∧ win0_1.index t 0 = 0 ∧ win0_1.index t 1 = t.val / 32
    ∧ win0_2.index t 0 = t.val % 32 ∧ win0_2.index t 1 = t.val / 32
    ∧ win0_3.index t 0 = t.val % 32 ∧ win0_3.index t 1 = t.val / 32 :=
  (by decide +kernel : ∀ t : Fin grid0.N, win0_0.index t 0 = t.val % 32 ∧ win0_0.index t 1 = 0
    ∧ win0_1.index t 0 = 0 ∧ win0_1.index t 1 = t.val / 32
    ∧ win0_2.index t 0 = t.val % 32 ∧ win0_2.index t 1 = t.val / 32
    ∧ win0_3.index t 0 = t.val % 32 ∧ win0_3.index t 1 = t.val / 32)

/-- A block of the product at an index. -/
theorem t_block (c : Dev nD) (t : Fin cfg0.N) (r : Fin 512) (q : Fin 11008) (hr : t.val % 32 * 512 + r.val < 16384) :
    iblk m c 0 t (ix2 r q) = T m c (ix2 ⟨t.val % 32 * 512 + r.val, hr⟩ q) := by
  unfold iblk
  rw [View.read_apply]
  show V m c main_arg0 _ = _
  rw [V_main_arg0]
  show T m c _ = _
  congr 1
  funext a
  apply Fin.ext
  match a with
  | ⟨0, _⟩ => show win0_0.index t 0 * 512 + 1 * r.val = _; rw [(idx t).1]; simp
  | ⟨1, _⟩ => show win0_0.index t 1 * 11008 + 1 * q.val = _; rw [(idx t).2.1]; simp

/-- A block of the projection at an index. -/
theorem down_block (c : Dev nD) (t : Fin cfg0.N) (r : Fin 11008) (q : Fin 512) (hq : t.val / 32 * 512 + q.val < 4096) :
    iblk m c 1 t (ix2 r q) = WD m c (ix3 0 r ⟨t.val / 32 * 512 + q.val, hq⟩) := by
  have e : (((cfg0.win 1).blk t).view.emb (ix2 r q) : S11008x4096.Idx) = ix2 r ⟨t.val / 32 * 512 + q.val, hq⟩ := by
    funext a
    apply Fin.ext
    match a with
    | ⟨0, _⟩ => show win0_1.index t 0 * 11008 + 1 * r.val = _; rw [(idx t).2.2.1]; simp
    | ⟨1, _⟩ => show win0_1.index t 1 * 512 + 1 * q.val = _; rw [(idx t).2.2.2.1]; simp
  unfold iblk
  rw [View.read_apply]
  show V m c main_v1 _ = _
  rw [e, V_main_v1]
  generalize WD m c = w
  pointwise

/-- A block of the residual at an index. -/
theorem x_block (c : Dev nD) (t : Fin cfg0.N) (r : Fin 512) (q : Fin 512) (hr : t.val % 32 * 512 + r.val < 16384)
    (hq : t.val / 32 * 512 + q.val < 4096) :
    iblk m c 2 t (ix2 r q) = X m c (ix2 ⟨t.val % 32 * 512 + r.val, hr⟩ ⟨t.val / 32 * 512 + q.val, hq⟩) := by
  unfold iblk
  rw [View.read_apply]
  show V m c main_arg2 _ = _
  rw [V_main_arg2]
  show X m c _ = _
  congr 1
  funext a
  apply Fin.ext
  match a with
  | ⟨0, _⟩ => show win0_2.index t 0 * 512 + 1 * r.val = _; rw [(idx t).2.2.2.2.1]; simp
  | ⟨1, _⟩ => show win0_2.index t 1 * 512 + 1 * q.val = _; rw [(idx t).2.2.2.2.2.1]; simp

/-- What a point writes back is its block of the reference's value. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero offsets_zero, View.ld_unit_zero offsets_zero, View.ld_unit_zero offsets_zero, View.ld_unit_zero offsets_zero]
  funext j
  rw [View.read_apply]
  show k0_pay1 (F := Ideal) (iblk m c 0 t) (iblk m c 1 t) (iblk m c 2 t) j = G m c _
  idx_vars j
  have ht : t.val < 256 := lt_of_lt_of_eq t.isLt N_0
  have hr : t.val % 32 * 512 + j0.val < 16384 := by omega
  have hq : t.val / 32 * 512 + j1.val < 4096 := by omega
  have e : (((cfg0.win 3).blk t).view.emb (ix2 j0 j1) : S16384x4096.Idx) = ix2 ⟨t.val % 32 * 512 + j0.val, hr⟩ ⟨t.val / 32 * 512 + j1.val, hq⟩ := by
    funext a
    apply Fin.ext
    match a with
    | ⟨0, _⟩ => show win0_3.index t 0 * 512 + 1 * j0.val = _; rw [(idx t).2.2.2.2.2.2.1]; simp
    | ⟨1, _⟩ => show win0_3.index t 1 * 512 + 1 * j1.val = _; rw [(idx t).2.2.2.2.2.2.2]; simp
  rw [e]
  unfold k0_pay1 G
  pointwise [Cert.ReferenceDownIdeal.Read.val_main_v5,
    Cert.ReferenceDownIdeal.Read.val_main_v4,
    Cert.ReferenceDownIdeal.Read.val_main_v3,
    Cert.ReferenceDownIdeal.Read.val_main_v2,
    Cert.ReferenceDownIdeal.Read.val_main_v1,
    Cert.ReferenceDownIdeal.Read.val_main_v0,
    Cert.ReferenceDownIdeal.Read.val_main_cst]
  simp only [t_block m c t _ _ hr, down_block m c t _ _ hq, x_block m c t _ _ hr hq]

/-- Every index of the result lies in some point's block. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  let t : Fin cfg0.N := ⟨(i 1).val / 512 * 32 + (i 0).val / 512, by show _ < grid0.N; rw [N_0]; omega⟩
  refine ⟨t, flush0_3 t, ?_⟩
  show i ∈ ((View.whole main_v2).slice (win0_3.rect t)).set
  rw [View.set_slice_whole, Rect.mem_set_unit]
  have e0 : win0_3.index t 0 = (i 0).val / 512 := by rw [(idx t).2.2.2.2.2.2.1]; show ((i 1).val / 512 * 32 + (i 0).val / 512) % 32 = _; omega
  have e1 : win0_3.index t 1 = (i 1).val / 512 := by rw [(idx t).2.2.2.2.2.2.2]; show ((i 1).val / 512 * 32 + (i 0).val / 512) / 32 = _; omega
  intro a
  match a with
  | ⟨0, _⟩ => show win0_3.index t 0 * 512 ≤ (i 0).val ∧ (i 0).val < win0_3.index t 0 * 512 + 512; omega
  | ⟨1, _⟩ => show win0_3.index t 1 * 512 ≤ (i 1).val ∧ (i 1).val < win0_3.index t 1 * 512 + 512; omega

/-- So the result array ends at the reference's value, -/
theorem final (c : Dev nD) : (dats m 0 c).arrAt 3 cfg0.N = G m c :=
  (dats m 0 c).arrAt_eq_of_cover 3 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelDownIdeal.RefValue

end
-- ==== Proof.Values.Merge.lean ====
/-
  The two branches merged: each brought to the width of the model by its own projection, scaled by its half of the
  gates, and added.
-/
module

public import proofs.«01_k».proof.Proof.Gen.KernelMergeIdeal.Value
public import proofs.«01_k».proof.Proof.Gen.ReferenceMergeIdeal.Run
public import proofs.«01_k».proof.Proof.Gen.ReferenceMergeIdeal.Read
public import proofs.«01_k».proof.Proof.Values.Common
public import Idealize.ShloMosaic.Lib.Pipeline.Value
public import Idealize.ShloMosaic.Lib.Pointwise

@[expose] public section

set_option maxRecDepth 16384

noncomputable section

namespace Cert.KernelMergeIdeal.RefValue

open Layer Cert.KernelMergeIdeal Cert.KernelMergeIdeal.Gen Idealize.ShloMosaic Idealize.ShloMosaic.TcCoe Idealize.SL.Sem
open Idealize.ShloMosaic.Pipeline (Dat)

variable (m : (ℓ : Loc nD τ sig) → Buf (Elt Ideal) ℓ)

/-- The attention branch. -/
abbrev A (c : Dev nD) : FVec Ideal S16384x1024 .bf16 := m ((c : Thread nD τ).loc main_arg0)
/-- The recurrent branch. -/
abbrev B (c : Dev nD) : FVec Ideal S16384x2048 .bf16 := m ((c : Thread nD τ).loc main_arg1)
/-- The gates of the two branches. -/
abbrev S (c : Dev nD) : FVec Ideal S16384x8192 .bf16 := m ((c : Thread nD τ).loc main_arg2)
/-- The projection of the attention branch. -/
abbrev WA (c : Dev nD) : FVec Ideal S1x1024x4096 .f32 := m ((c : Thread nD τ).loc main_arg3)
/-- The projection of the recurrent branch. -/
abbrev WB (c : Dev nD) : FVec Ideal S1x2048x4096 .f32 := m ((c : Thread nD τ).loc main_arg4)

/-- What the reference computes of the same arguments. -/
abbrev G (c : Dev nD) : FVec Ideal S16384x4096 .bf16 :=
  Cert.ReferenceMergeIdeal.Read.val_main_v13 (F := Ideal) (A m c) (B m c) (S m c) (WA m c) (WB m c)

/-- The projection of the attention branch as the region finds it. -/
theorem V_main_v1 (c : Dev nD) : V m c main_v1
    = truncf .bf16 (shapeCast S1024x4096 (WA m c) shapeCasts_S1x1024x4096_S1024x4096) bitsLt_bf16_f32 := by
  show StableHlo.after hostOps0 (fun b => m (c, b)) (Proc.devRef .tc main_v1) = _
  after_results
  rfl

/-- The projection of the recurrent branch as the region finds it. -/
theorem V_main_v3 (c : Dev nD) : V m c main_v3
    = truncf .bf16 (shapeCast S2048x4096 (WB m c) shapeCasts_S1x2048x4096_S2048x4096) bitsLt_bf16_f32 := by
  show StableHlo.after hostOps0 (fun b => m (c, b)) (Proc.devRef .tc main_v3) = _
  after_results
  rfl

/-- The block each window is at: two windows read one array of gates, four blocks apart. -/
theorem idx : ∀ t : Fin cfg0.N, win0_0.index t 0 = t.val / 4 ∧ win0_0.index t 1 = 0
    ∧ win0_1.index t 0 = t.val / 4 ∧ win0_1.index t 1 = 0
    ∧ win0_2.index t 0 = 0 ∧ win0_2.index t 1 = t.val % 4
    ∧ win0_3.index t 0 = 0 ∧ win0_3.index t 1 = t.val % 4
    ∧ win0_4.index t 0 = t.val / 4 ∧ win0_4.index t 1 = t.val % 4
    ∧ win0_5.index t 0 = t.val / 4 ∧ win0_5.index t 1 = t.val % 4 + 4
    ∧ win0_6.index t 0 = t.val / 4 ∧ win0_6.index t 1 = t.val % 4 :=
  (by decide +kernel : ∀ t : Fin grid0.N, win0_0.index t 0 = t.val / 4 ∧ win0_0.index t 1 = 0
    ∧ win0_1.index t 0 = t.val / 4 ∧ win0_1.index t 1 = 0
    ∧ win0_2.index t 0 = 0 ∧ win0_2.index t 1 = t.val % 4
    ∧ win0_3.index t 0 = 0 ∧ win0_3.index t 1 = t.val % 4
    ∧ win0_4.index t 0 = t.val / 4 ∧ win0_4.index t 1 = t.val % 4
    ∧ win0_5.index t 0 = t.val / 4 ∧ win0_5.index t 1 = t.val % 4 + 4
    ∧ win0_6.index t 0 = t.val / 4 ∧ win0_6.index t 1 = t.val % 4)

/-- A block of the attention branch at an index. -/
theorem a_block (c : Dev nD) (t : Fin cfg0.N) (r : Fin 1024) (q : Fin 1024) (hr : t.val / 4 * 1024 + r.val < 16384) :
    iblk m c 0 t (ix2 r q) = A m c (ix2 ⟨t.val / 4 * 1024 + r.val, hr⟩ q) := by
  unfold iblk
  rw [View.read_apply]
  show V m c main_arg0 _ = _
  rw [V_main_arg0]
  show A m c _ = _
  congr 1
  funext a
  apply Fin.ext
  match a with
  | ⟨0, _⟩ => show win0_0.index t 0 * 1024 + 1 * r.val = _; rw [(idx t).1]; simp
  | ⟨1, _⟩ => show win0_0.index t 1 * 1024 + 1 * q.val = _; rw [(idx t).2.1]; simp

/-- A block of the recurrent branch at an index. -/
theorem b_block (c : Dev nD) (t : Fin cfg0.N) (r : Fin 1024) (q : Fin 2048) (hr : t.val / 4 * 1024 + r.val < 16384) :
    iblk m c 1 t (ix2 r q) = B m c (ix2 ⟨t.val / 4 * 1024 + r.val, hr⟩ q) := by
  unfold iblk
  rw [View.read_apply]
  show V m c main_arg1 _ = _
  rw [V_main_arg1]
  show B m c _ = _
  congr 1
  funext a
  apply Fin.ext
  match a with
  | ⟨0, _⟩ => show win0_1.index t 0 * 1024 + 1 * r.val = _; rw [(idx t).2.2.1]; simp
  | ⟨1, _⟩ => show win0_1.index t 1 * 2048 + 1 * q.val = _; rw [(idx t).2.2.2.1]; simp

/-- A block of the first projection at an index. -/
theorem wa_block (c : Dev nD) (t : Fin cfg0.N) (r : Fin 1024) (q : Fin 1024) (hq : t.val % 4 * 1024 + q.val < 4096) :
    iblk m c 2 t (ix2 r q) = WA m c (ix3 0 r ⟨t.val % 4 * 1024 + q.val, hq⟩) := by
  have e : (((cfg0.win 2).blk t).view.emb (ix2 r q) : S1024x4096.Idx) = ix2 r ⟨t.val % 4 * 1024 + q.val, hq⟩ := by
    funext a
    apply Fin.ext
    match a with
    | ⟨0, _⟩ => show win0_2.index t 0 * 1024 + 1 * r.val = _; rw [(idx t).2.2.2.2.1]; simp
    | ⟨1, _⟩ => show win0_2.index t 1 * 1024 + 1 * q.val = _; rw [(idx t).2.2.2.2.2.1]; simp
  unfold iblk
  rw [View.read_apply]
  show V m c main_v1 _ = _
  rw [e, V_main_v1]
  generalize WA m c = w
  pointwise

/-- A block of the second projection at an index. -/
theorem wb_block (c : Dev nD) (t : Fin cfg0.N) (r : Fin 2048) (q : Fin 1024) (hq : t.val % 4 * 1024 + q.val < 4096) :
    iblk m c 3 t (ix2 r q) = WB m c (ix3 0 r ⟨t.val % 4 * 1024 + q.val, hq⟩) := by
  have e : (((cfg0.win 3).blk t).view.emb (ix2 r q) : S2048x4096.Idx) = ix2 r ⟨t.val % 4 * 1024 + q.val, hq⟩ := by
    funext a
    apply Fin.ext
    match a with
    | ⟨0, _⟩ => show win0_3.index t 0 * 2048 + 1 * r.val = _; rw [(idx t).2.2.2.2.2.2.1]; simp
    | ⟨1, _⟩ => show win0_3.index t 1 * 1024 + 1 * q.val = _; rw [(idx t).2.2.2.2.2.2.2.1]; simp
  unfold iblk
  rw [View.read_apply]
  show V m c main_v3 _ = _
  rw [e, V_main_v3]
  generalize WB m c = w
  pointwise

/-- A block of the attention branch's gates at an index. -/
theorem sa_block (c : Dev nD) (t : Fin cfg0.N) (r : Fin 1024) (q : Fin 1024) (hr : t.val / 4 * 1024 + r.val < 16384)
    (hq : t.val % 4 * 1024 + q.val < 8192) :
    iblk m c 4 t (ix2 r q) = S m c (ix2 ⟨t.val / 4 * 1024 + r.val, hr⟩ ⟨t.val % 4 * 1024 + q.val, hq⟩) := by
  unfold iblk
  rw [View.read_apply]
  show V m c main_arg2 _ = _
  rw [V_main_arg2]
  show S m c _ = _
  congr 1
  funext a
  apply Fin.ext
  match a with
  | ⟨0, _⟩ => show win0_4.index t 0 * 1024 + 1 * r.val = _; rw [(idx t).2.2.2.2.2.2.2.2.1]; simp
  | ⟨1, _⟩ => show win0_4.index t 1 * 1024 + 1 * q.val = _; rw [(idx t).2.2.2.2.2.2.2.2.2.1]; simp

/-- A block of the recurrent branch's gates at an index. -/
theorem sb_block (c : Dev nD) (t : Fin cfg0.N) (r : Fin 1024) (q : Fin 1024) (hr : t.val / 4 * 1024 + r.val < 16384)
    (hq : (t.val % 4 + 4) * 1024 + q.val < 8192) :
    iblk m c 5 t (ix2 r q) = S m c (ix2 ⟨t.val / 4 * 1024 + r.val, hr⟩ ⟨(t.val % 4 + 4) * 1024 + q.val, hq⟩) := by
  unfold iblk
  rw [View.read_apply]
  show V m c main_arg2 _ = _
  rw [V_main_arg2]
  show S m c _ = _
  congr 1
  funext a
  apply Fin.ext
  match a with
  | ⟨0, _⟩ => show win0_5.index t 0 * 1024 + 1 * r.val = _; rw [(idx t).2.2.2.2.2.2.2.2.2.2.1]; simp
  | ⟨1, _⟩ => show win0_5.index t 1 * 1024 + 1 * q.val = _; rw [(idx t).2.2.2.2.2.2.2.2.2.2.2.1]; simp

/-- What a point writes back is its block of the reference's value. -/
theorem flushed_eq (c : Dev nD) (t : Fin cfg0.N) :
    (dats m 0 c).flushed 6 t = ((cfg0.win 6).blk t).view.read (Elt Ideal) (G m c) := by
  rw [Value.flushed6]
  unfold out0_6
  rw [View.canon_unit_zero offsets_zero, View.ld_unit_zero offsets_zero, View.ld_unit_zero offsets_zero, View.ld_unit_zero offsets_zero, View.ld_unit_zero offsets_zero, View.ld_unit_zero offsets_zero, View.ld_unit_zero offsets_zero]
  funext j
  rw [View.read_apply]
  show k0_pay1 (F := Ideal) (iblk m c 0 t) (iblk m c 2 t) (iblk m c 1 t) (iblk m c 3 t) (iblk m c 4 t) (iblk m c 5 t) j = G m c _
  idx_vars j
  have ht : t.val < 64 := lt_of_lt_of_eq t.isLt N_0
  have hr : t.val / 4 * 1024 + j0.val < 16384 := by omega
  have hq : t.val % 4 * 1024 + j1.val < 4096 := by omega
  have ha : t.val % 4 * 1024 + j1.val < 8192 := by omega
  have hb : (t.val % 4 + 4) * 1024 + j1.val < 8192 := by omega
  have e : (((cfg0.win 6).blk t).view.emb (ix2 j0 j1) : S16384x4096.Idx) = ix2 ⟨t.val / 4 * 1024 + j0.val, hr⟩ ⟨t.val % 4 * 1024 + j1.val, hq⟩ := by
    funext a
    apply Fin.ext
    match a with
    | ⟨0, _⟩ => show win0_6.index t 0 * 1024 + 1 * j0.val = _; rw [(idx t).2.2.2.2.2.2.2.2.2.2.2.2.1]; simp
    | ⟨1, _⟩ => show win0_6.index t 1 * 1024 + 1 * j1.val = _; rw [(idx t).2.2.2.2.2.2.2.2.2.2.2.2.2]; simp
  rw [e]
  unfold k0_pay1 G
  pointwise [Cert.ReferenceMergeIdeal.Read.val_main_v13,
    Cert.ReferenceMergeIdeal.Read.val_main_v12,
    Cert.ReferenceMergeIdeal.Read.val_main_v11,
    Cert.ReferenceMergeIdeal.Read.val_main_v10,
    Cert.ReferenceMergeIdeal.Read.val_main_v9,
    Cert.ReferenceMergeIdeal.Read.val_main_v8,
    Cert.ReferenceMergeIdeal.Read.val_main_v7,
    Cert.ReferenceMergeIdeal.Read.val_main_v6,
    Cert.ReferenceMergeIdeal.Read.val_main_v5,
    Cert.ReferenceMergeIdeal.Read.val_main_v4,
    Cert.ReferenceMergeIdeal.Read.val_main_v3,
    Cert.ReferenceMergeIdeal.Read.val_main_v2,
    Cert.ReferenceMergeIdeal.Read.val_main_v1,
    Cert.ReferenceMergeIdeal.Read.val_main_v0]
  simp only [a_block m c t _ _ hr, b_block m c t _ _ hr, wa_block m c t _ _ hq, wb_block m c t _ _ hq,
    sa_block m c t _ _ hr ha, sb_block m c t _ _ hr hb,
    show (t.val % 4 + 4) * 1024 + j1.val = 4096 + (t.val % 4 * 1024 + j1.val) by omega]

/-- Every index of the result lies in some point's block. -/
theorem cover (i : S16384x4096.Idx) : ∃ t : Fin cfg0.N, (cfg0.win 6).flush t = true ∧ i ∈ ((cfg0.win 6).blk t).view.set := by
  have h0 : (i 0).val < 16384 := (i 0).isLt
  have h1 : (i 1).val < 4096 := (i 1).isLt
  let t : Fin cfg0.N := ⟨(i 0).val / 1024 * 4 + (i 1).val / 1024, by show _ < grid0.N; rw [N_0]; omega⟩
  refine ⟨t, flush0_6 t, ?_⟩
  show i ∈ ((View.whole main_v4).slice (win0_6.rect t)).set
  rw [View.set_slice_whole, Rect.mem_set_unit]
  have e0 : win0_6.index t 0 = (i 0).val / 1024 := by rw [(idx t).2.2.2.2.2.2.2.2.2.2.2.2.1]; show ((i 0).val / 1024 * 4 + (i 1).val / 1024) / 4 = _; omega
  have e1 : win0_6.index t 1 = (i 1).val / 1024 := by rw [(idx t).2.2.2.2.2.2.2.2.2.2.2.2.2]; show ((i 0).val / 1024 * 4 + (i 1).val / 1024) % 4 = _; omega
  intro a
  match a with
  | ⟨0, _⟩ => show win0_6.index t 0 * 1024 ≤ (i 0).val ∧ (i 0).val < win0_6.index t 0 * 1024 + 1024; omega
  | ⟨1, _⟩ => show win0_6.index t 1 * 1024 ≤ (i 1).val ∧ (i 1).val < win0_6.index t 1 * 1024 + 1024; omega

/-- So the result array ends at the reference's value, -/
theorem final (c : Dev nD) : (dats m 0 c).arrAt 6 cfg0.N = G m c :=
  (dats m 0 c).arrAt_eq_of_cover 6 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelMergeIdeal.RefValue

end
-- ==== Proof.Values.Out.lean ====
/-
  The output projection of the merged branches, added to the residual.
-/
module

public import proofs.«01_k».proof.Proof.Gen.KernelOutIdeal.Value
public import proofs.«01_k».proof.Proof.Gen.ReferenceOutIdeal.Run
public import proofs.«01_k».proof.Proof.Gen.ReferenceOutIdeal.Read
public import proofs.«01_k».proof.Proof.Values.Common
public import Idealize.ShloMosaic.Lib.Pipeline.Value
public import Idealize.ShloMosaic.Lib.Pointwise

@[expose] public section

set_option maxRecDepth 16384

noncomputable section

namespace Cert.KernelOutIdeal.RefValue

open Layer Cert.KernelOutIdeal Cert.KernelOutIdeal.Gen Idealize.ShloMosaic Idealize.ShloMosaic.TcCoe Idealize.SL.Sem
open Idealize.ShloMosaic.Pipeline (Dat)

variable (m : (ℓ : Loc nD τ sig) → Buf (Elt Ideal) ℓ)

/-- The merged branches. -/
abbrev Y (c : Dev nD) : FVec Ideal S16384x4096 .bf16 := m ((c : Thread nD τ).loc main_arg0)
/-- The output projection. -/
abbrev WO (c : Dev nD) : FVec Ideal S1x4096x4096 .f32 := m ((c : Thread nD τ).loc main_arg1)
/-- The residual. -/
abbrev X (c : Dev nD) : FVec Ideal S16384x4096 .f32 := m ((c : Thread nD τ).loc main_arg2)

/-- What the reference computes of the same arguments. -/
abbrev G (c : Dev nD) : FVec Ideal S16384x4096 .f32 :=
  Cert.ReferenceOutIdeal.Read.val_main_v3 (F := Ideal) (Y m c) (WO m c) (X m c)

/-- The output projection as the region finds it. -/
theorem V_main_v1 (c : Dev nD) : V m c main_v1
    = truncf .bf16 (shapeCast S4096x4096 (WO m c) shapeCasts_S1x4096x4096_S4096x4096) bitsLt_bf16_f32 := by
  show StableHlo.after hostOps0 (fun b => m (c, b)) (Proc.devRef .tc main_v1) = _
  after_results
  rfl

/-- The block each window is at. -/
theorem idx : ∀ t : Fin cfg0.N, win0_0.index t 0 = t.val / 4 ∧ win0_0.index t 1 = 0
    ∧ win0_1.index t 0 = 0 ∧ win0_1.index t 1 = t.val % 4
    ∧ win0_2.index t 0 = t.val / 4 ∧ win0_2.index t 1 = t.val % 4
    ∧ win0_3.index t 0 = t.val / 4 ∧ win0_3.index t 1 = t.val % 4 :=
  (by decide +kernel : ∀ t : Fin grid0.N, win0_0.index t 0 = t.val / 4 ∧ win0_0.index t 1 = 0
    ∧ win0_1.index t 0 = 0 ∧ win0_1.index t 1 = t.val % 4
    ∧ win0_2.index t 0 = t.val / 4 ∧ win0_2.index t 1 = t.val % 4
    ∧ win0_3.index t 0 = t.val / 4 ∧ win0_3.index t 1 = t.val % 4)

/-- A block of the merged branches at an index. -/
theorem y_block (c : Dev nD) (t : Fin cfg0.N) (r : Fin 1024) (q : Fin 4096) (hr : t.val / 4 * 1024 + r.val < 16384) :
    iblk m c 0 t (ix2 r q) = Y m c (ix2 ⟨t.val / 4 * 1024 + r.val, hr⟩ q) := by
  unfold iblk
  rw [View.read_apply]
  show V m c main_arg0 _ = _
  rw [V_main_arg0]
  show Y m c _ = _
  congr 1
  funext a
  apply Fin.ext
  match a with
  | ⟨0, _⟩ => show win0_0.index t 0 * 1024 + 1 * r.val = _; rw [(idx t).1]; simp
  | ⟨1, _⟩ => show win0_0.index t 1 * 4096 + 1 * q.val = _; rw [(idx t).2.1]; simp

/-- A block of the projection at an index. -/
theorem out_block (c : Dev nD) (t : Fin cfg0.N) (r : Fin 4096) (q : Fin 1024) (hq : t.val % 4 * 1024 + q.val < 4096) :
    iblk m c 1 t (ix2 r q) = WO m c (ix3 0 r ⟨t.val % 4 * 1024 + q.val, hq⟩) := by
  have e : (((cfg0.win 1).blk t).view.emb (ix2 r q) : S4096x4096.Idx) = ix2 r ⟨t.val % 4 * 1024 + q.val, hq⟩ := by
    funext a
    apply Fin.ext
    match a with
    | ⟨0, _⟩ => show win0_1.index t 0 * 4096 + 1 * r.val = _; rw [(idx t).2.2.1]; simp
    | ⟨1, _⟩ => show win0_1.index t 1 * 1024 + 1 * q.val = _; rw [(idx t).2.2.2.1]; simp
  unfold iblk
  rw [View.read_apply]
  show V m c main_v1 _ = _
  rw [e, V_main_v1]
  generalize WO m c = w
  pointwise

/-- A block of the residual at an index. -/
theorem x_block (c : Dev nD) (t : Fin cfg0.N) (r : Fin 1024) (q : Fin 1024) (hr : t.val / 4 * 1024 + r.val < 16384)
    (hq : t.val % 4 * 1024 + q.val < 4096) :
    iblk m c 2 t (ix2 r q) = X m c (ix2 ⟨t.val / 4 * 1024 + r.val, hr⟩ ⟨t.val % 4 * 1024 + q.val, hq⟩) := by
  unfold iblk
  rw [View.read_apply]
  show V m c main_arg2 _ = _
  rw [V_main_arg2]
  show X m c _ = _
  congr 1
  funext a
  apply Fin.ext
  match a with
  | ⟨0, _⟩ => show win0_2.index t 0 * 1024 + 1 * r.val = _; rw [(idx t).2.2.2.2.1]; simp
  | ⟨1, _⟩ => show win0_2.index t 1 * 1024 + 1 * q.val = _; rw [(idx t).2.2.2.2.2.1]; simp

/-- What a point writes back is its block of the reference's value. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero offsets_zero, View.ld_unit_zero offsets_zero, View.ld_unit_zero offsets_zero, View.ld_unit_zero offsets_zero]
  funext j
  rw [View.read_apply]
  show k0_pay1 (F := Ideal) (iblk m c 0 t) (iblk m c 1 t) (iblk m c 2 t) j = G m c _
  idx_vars j
  have ht : t.val < 64 := lt_of_lt_of_eq t.isLt N_0
  have hr : t.val / 4 * 1024 + j0.val < 16384 := by omega
  have hq : t.val % 4 * 1024 + j1.val < 4096 := by omega
  have e : (((cfg0.win 3).blk t).view.emb (ix2 j0 j1) : S16384x4096.Idx) = ix2 ⟨t.val / 4 * 1024 + j0.val, hr⟩ ⟨t.val % 4 * 1024 + j1.val, hq⟩ := by
    funext a
    apply Fin.ext
    match a with
    | ⟨0, _⟩ => show win0_3.index t 0 * 1024 + 1 * j0.val = _; rw [(idx t).2.2.2.2.2.2.1]; simp
    | ⟨1, _⟩ => show win0_3.index t 1 * 1024 + 1 * j1.val = _; rw [(idx t).2.2.2.2.2.2.2]; simp
  rw [e]
  unfold k0_pay1 G
  pointwise [Cert.ReferenceOutIdeal.Read.val_main_v3,
    Cert.ReferenceOutIdeal.Read.val_main_v2,
    Cert.ReferenceOutIdeal.Read.val_main_v1,
    Cert.ReferenceOutIdeal.Read.val_main_v0]
  simp only [y_block m c t _ _ hr, out_block m c t _ _ hq, x_block m c t _ _ hr hq, word_one, one_mul]

/-- Every index of the result lies in some point's block. -/
theorem cover (i : S16384x4096.Idx) : ∃ t : Fin cfg0.N, (cfg0.win 3).flush t = true ∧ i ∈ ((cfg0.win 3).blk t).view.set := by
  have h0 : (i 0).val < 16384 := (i 0).isLt
  have h1 : (i 1).val < 4096 := (i 1).isLt
  let t : Fin cfg0.N := ⟨(i 0).val / 1024 * 4 + (i 1).val / 1024, by show _ < grid0.N; rw [N_0]; omega⟩
  refine ⟨t, flush0_3 t, ?_⟩
  show i ∈ ((View.whole main_v2).slice (win0_3.rect t)).set
  rw [View.set_slice_whole, Rect.mem_set_unit]
  have e0 : win0_3.index t 0 = (i 0).val / 1024 := by rw [(idx t).2.2.2.2.2.2.1]; show ((i 0).val / 1024 * 4 + (i 1).val / 1024) / 4 = _; omega
  have e1 : win0_3.index t 1 = (i 1).val / 1024 := by rw [(idx t).2.2.2.2.2.2.2]; show ((i 0).val / 1024 * 4 + (i 1).val / 1024) % 4 = _; omega
  intro a
  match a with
  | ⟨0, _⟩ => show win0_3.index t 0 * 1024 ≤ (i 0).val ∧ (i 0).val < win0_3.index t 0 * 1024 + 1024; omega
  | ⟨1, _⟩ => show win0_3.index t 1 * 1024 ≤ (i 1).val ∧ (i 1).val < win0_3.index t 1 * 1024 + 1024; omega

/-- So the result array ends at the reference's value, -/
theorem final (c : Dev nD) : (dats m 0 c).arrAt 3 cfg0.N = G m c :=
  (dats m 0 c).arrAt_eq_of_cover 3 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelOutIdeal.RefValue

end
-- ==== Proof.Values.Norm.lean ====
/-
  The final norm: each row over the root of the mean of its squares, scaled by a gain for each column.
-/
module

public import proofs.«01_k».proof.Proof.Gen.KernelNormIdeal.Value
public import proofs.«01_k».proof.Proof.Gen.ReferenceNormIdeal.Run
public import proofs.«01_k».proof.Proof.Gen.ReferenceNormIdeal.Read
public import proofs.«01_k».proof.Proof.Values.Common
public import Idealize.ShloMosaic.Lib.Pipeline.Value
public import Idealize.ShloMosaic.Lib.Pointwise

@[expose] public section

set_option maxRecDepth 16384

noncomputable section

namespace Cert.KernelNormIdeal.RefValue

open Layer Cert.KernelNormIdeal Cert.KernelNormIdeal.Gen Idealize.ShloMosaic Idealize.ShloMosaic.TcCoe Idealize.SL.Sem
open Idealize.ShloMosaic.Pipeline (Dat)

variable (m : (ℓ : Loc nD τ sig) → Buf (Elt Ideal) ℓ)

/-- The residual. -/
abbrev X (c : Dev nD) : FVec Ideal S16384x4096 .f32 := m ((c : Thread nD τ).loc main_arg0)
/-- The gains. -/
abbrev Γ (c : Dev nD) : FVec Ideal S4096 .f32 := m ((c : Thread nD τ).loc main_arg1)

/-- What the reference computes of the same arguments. -/
abbrev G (c : Dev nD) : FVec Ideal S16384x4096 .f32 :=
  Cert.ReferenceNormIdeal.Read.val_main_v12 (F := Ideal) (X m c) (Γ m c)

/-- The gains as the region finds them. -/
theorem V_main_v0 (c : Dev nD) : V m c main_v0
    = shapeCast S1x4096 (Γ m c) shapeCasts_S4096_S1x4096 := by
  show StableHlo.after hostOps0 (fun b => m (c, b)) (Proc.devRef .tc main_v0) = _
  after_results
  rfl

/-- The block each window is at: whole rows, and the gains at every point. -/
theorem idx : ∀ t : Fin cfg0.N, win0_0.index t 0 = t.val ∧ win0_0.index t 1 = 0
    ∧ win0_1.index t 0 = 0 ∧ win0_1.index t 1 = 0
    ∧ win0_2.index t 0 = t.val ∧ win0_2.index t 1 = 0 :=
  (by decide +kernel : ∀ t : Fin grid0.N, win0_0.index t 0 = t.val ∧ win0_0.index t 1 = 0
    ∧ win0_1.index t 0 = 0 ∧ win0_1.index t 1 = 0
    ∧ win0_2.index t 0 = t.val ∧ win0_2.index t 1 = 0)

/-- A block of rows at an index. -/
theorem x_block (c : Dev nD) (t : Fin cfg0.N) (r : Fin 256) (q : Fin 4096) (hr : t.val * 256 + r.val < 16384) :
    iblk m c 0 t (ix2 r q) = X m c (ix2 ⟨t.val * 256 + r.val, hr⟩ q) := by
  unfold iblk
  rw [View.read_apply]
  show V m c main_arg0 _ = _
  rw [V_main_arg0]
  show X m c _ = _
  congr 1
  funext a
  apply Fin.ext
  match a with
  | ⟨0, _⟩ => show win0_0.index t 0 * 256 + 1 * r.val = _; rw [(idx t).1]; simp
  | ⟨1, _⟩ => show win0_0.index t 1 * 4096 + 1 * q.val = _; rw [(idx t).2.1]; simp

/-- The gains at an index. -/
theorem g_block (c : Dev nD) (t : Fin cfg0.N) (r : Fin 1) (q : Fin 4096) :
    iblk m c 1 t (ix2 r q) = Γ m c (ix1 q) := by
  have e : (((cfg0.win 1).blk t).view.emb (ix2 r q) : S1x4096.Idx) = ix2 r q := by
    funext a
    apply Fin.ext
    match a with
    | ⟨0, _⟩ => show win0_1.index t 0 * 1 + 1 * r.val = _; rw [(idx t).2.2.1]; simp
    | ⟨1, _⟩ => show win0_1.index t 1 * 4096 + 1 * q.val = _; rw [(idx t).2.2.2.1]; simp
  unfold iblk
  rw [View.read_apply]
  show V m c main_v0 _ = _
  rw [e, V_main_v0]
  generalize Γ m c = w
  pointwise

/-- What a point writes back is its block of the reference's value. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero offsets_zero, View.ld_unit_zero offsets_zero, View.ld_unit_zero offsets_zero]
  funext j
  rw [View.read_apply]
  show k0_pay1 (F := Ideal) (iblk m c 0 t) (iblk m c 1 t) j = G m c _
  idx_vars j
  have ht : t.val < 64 := lt_of_lt_of_eq t.isLt N_0
  have hr : t.val * 256 + j0.val < 16384 := by omega
  have e : (((cfg0.win 2).blk t).view.emb (ix2 j0 j1) : S16384x4096.Idx) = ix2 ⟨t.val * 256 + j0.val, hr⟩ j1 := by
    funext a
    apply Fin.ext
    match a with
    | ⟨0, _⟩ => show win0_2.index t 0 * 256 + 1 * j0.val = _; rw [(idx t).2.2.2.2.1]; simp
    | ⟨1, _⟩ => show win0_2.index t 1 * 4096 + 1 * j1.val = _; rw [(idx t).2.2.2.2.2]; simp
  rw [e]
  unfold k0_pay1 G
  pointwise [Cert.ReferenceNormIdeal.Read.val_main_v12,
    Cert.ReferenceNormIdeal.Read.val_main_v11,
    Cert.ReferenceNormIdeal.Read.val_main_v10,
    Cert.ReferenceNormIdeal.Read.val_main_v9,
    Cert.ReferenceNormIdeal.Read.val_main_v8,
    Cert.ReferenceNormIdeal.Read.val_main_v7,
    Cert.ReferenceNormIdeal.Read.val_main_v6,
    Cert.ReferenceNormIdeal.Read.val_main_v5,
    Cert.ReferenceNormIdeal.Read.val_main_v4,
    Cert.ReferenceNormIdeal.Read.val_main_v3,
    Cert.ReferenceNormIdeal.Read.val_main_v2,
    Cert.ReferenceNormIdeal.Read.val_main_v1,
    Cert.ReferenceNormIdeal.Read.val_main_v0,
    Cert.ReferenceNormIdeal.Read.val_main_cst,
    Cert.ReferenceNormIdeal.Read.val_main_cst_0,
    Cert.ReferenceNormIdeal.Read.val_main_cst_1]
  simp only [x_block m c t _ _ hr, g_block m c t]

/-- Every index of the result lies in some point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  let t : Fin cfg0.N := ⟨(i 0).val / 256, by show _ < grid0.N; rw [N_0]; omega⟩
  refine ⟨t, flush0_2 t, ?_⟩
  show i ∈ ((View.whole main_v1).slice (win0_2.rect t)).set
  rw [View.set_slice_whole, Rect.mem_set_unit]
  have e0 : win0_2.index t 0 = (i 0).val / 256 := by rw [(idx t).2.2.2.2.1]
  have e1 : win0_2.index t 1 = 0 := by rw [(idx t).2.2.2.2.2]
  intro a
  match a with
  | ⟨0, _⟩ => show win0_2.index t 0 * 256 ≤ (i 0).val ∧ (i 0).val < win0_2.index t 0 * 256 + 256; omega
  | ⟨1, _⟩ => show win0_2.index t 1 * 4096 ≤ (i 1).val ∧ (i 1).val < win0_2.index t 1 * 4096 + 4096; omega

/-- So the result array ends at the reference's value, -/
theorem final (c : Dev nD) : (dats m 0 c).arrAt 2 cfg0.N = G m c :=
  (dats m 0 c).arrAt_eq_of_cover 2 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelNormIdeal.RefValue

end
-- ==== Proof.Values.NormH.lean ====
/-
  The norms inside the layer: each row over the root of the mean of its squares, scaled by a gain for each column, and
  rounded.
-/
module

public import proofs.«01_k».proof.Proof.Gen.KernelNormHIdeal.Value
public import proofs.«01_k».proof.Proof.Gen.ReferenceNormHIdeal.Run
public import proofs.«01_k».proof.Proof.Gen.ReferenceNormHIdeal.Read
public import proofs.«01_k».proof.Proof.Values.Common
public import Idealize.ShloMosaic.Lib.Pipeline.Value
public import Idealize.ShloMosaic.Lib.Pointwise

@[expose] public section

set_option maxRecDepth 16384

noncomputable section

namespace Cert.KernelNormHIdeal.RefValue

open Layer Cert.KernelNormHIdeal Cert.KernelNormHIdeal.Gen Idealize.ShloMosaic Idealize.ShloMosaic.TcCoe Idealize.SL.Sem
open Idealize.ShloMosaic.Pipeline (Dat)

variable (m : (ℓ : Loc nD τ sig) → Buf (Elt Ideal) ℓ)

/-- The residual. -/
abbrev X (c : Dev nD) : FVec Ideal S16384x4096 .f32 := m ((c : Thread nD τ).loc main_arg0)
/-- The gains. -/
abbrev Γ (c : Dev nD) : FVec Ideal S1x4096 .f32 := m ((c : Thread nD τ).loc main_arg1)

/-- What the reference computes of the same arguments. -/
abbrev G (c : Dev nD) : FVec Ideal S16384x4096 .bf16 :=
  Cert.ReferenceNormHIdeal.Read.val_main_v14 (F := Ideal) (X m c) (Γ m c)

/-- The gains as the region finds them. -/
theorem V_main_v1 (c : Dev nD) : V m c main_v1
    = shapeCast S1x4096 (shapeCast S4096 (Γ m c) shapeCasts_S1x4096_S4096) shapeCasts_S4096_S1x4096 := by
  show StableHlo.after hostOps0 (fun b => m (c, b)) (Proc.devRef .tc main_v1) = _
  after_results
  rfl

/-- The block each window is at: whole rows, and the gains at every point. -/
theorem idx : ∀ t : Fin cfg0.N, win0_0.index t 0 = t.val ∧ win0_0.index t 1 = 0
    ∧ win0_1.index t 0 = 0 ∧ win0_1.index t 1 = 0
    ∧ win0_2.index t 0 = t.val ∧ win0_2.index t 1 = 0 :=
  (by decide +kernel : ∀ t : Fin grid0.N, win0_0.index t 0 = t.val ∧ win0_0.index t 1 = 0
    ∧ win0_1.index t 0 = 0 ∧ win0_1.index t 1 = 0
    ∧ win0_2.index t 0 = t.val ∧ win0_2.index t 1 = 0)

/-- A block of rows at an index. -/
theorem x_block (c : Dev nD) (t : Fin cfg0.N) (r : Fin 256) (q : Fin 4096) (hr : t.val * 256 + r.val < 16384) :
    iblk m c 0 t (ix2 r q) = X m c (ix2 ⟨t.val * 256 + r.val, hr⟩ q) := by
  unfold iblk
  rw [View.read_apply]
  show V m c main_arg0 _ = _
  rw [V_main_arg0]
  show X m c _ = _
  congr 1
  funext a
  apply Fin.ext
  match a with
  | ⟨0, _⟩ => show win0_0.index t 0 * 256 + 1 * r.val = _; rw [(idx t).1]; simp
  | ⟨1, _⟩ => show win0_0.index t 1 * 4096 + 1 * q.val = _; rw [(idx t).2.1]; simp

/-- The gains at an index. -/
theorem g_block (c : Dev nD) (t : Fin cfg0.N) (r : Fin 1) (q : Fin 4096) :
    iblk m c 1 t (ix2 r q) = Γ m c (ix2 r q) := by
  have e : (((cfg0.win 1).blk t).view.emb (ix2 r q) : S1x4096.Idx) = ix2 r q := by
    funext a
    apply Fin.ext
    match a with
    | ⟨0, _⟩ => show win0_1.index t 0 * 1 + 1 * r.val = _; rw [(idx t).2.2.1]; simp
    | ⟨1, _⟩ => show win0_1.index t 1 * 4096 + 1 * q.val = _; rw [(idx t).2.2.2.1]; simp
  unfold iblk
  rw [View.read_apply]
  show V m c main_v1 _ = _
  rw [e, V_main_v1]
  generalize Γ m c = w
  pointwise

/-- What a point writes back is its block of the reference's value. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero offsets_zero, View.ld_unit_zero offsets_zero, View.ld_unit_zero offsets_zero]
  funext j
  rw [View.read_apply]
  show k0_pay1 (F := Ideal) (iblk m c 0 t) (iblk m c 1 t) j = G m c _
  idx_vars j
  have ht : t.val < 64 := lt_of_lt_of_eq t.isLt N_0
  have hr : t.val * 256 + j0.val < 16384 := by omega
  have e : (((cfg0.win 2).blk t).view.emb (ix2 j0 j1) : S16384x4096.Idx) = ix2 ⟨t.val * 256 + j0.val, hr⟩ j1 := by
    funext a
    apply Fin.ext
    match a with
    | ⟨0, _⟩ => show win0_2.index t 0 * 256 + 1 * j0.val = _; rw [(idx t).2.2.2.2.1]; simp
    | ⟨1, _⟩ => show win0_2.index t 1 * 4096 + 1 * j1.val = _; rw [(idx t).2.2.2.2.2]; simp
  rw [e]
  unfold k0_pay1 G
  pointwise [Cert.ReferenceNormHIdeal.Read.val_main_v14,
    Cert.ReferenceNormHIdeal.Read.val_main_v13,
    Cert.ReferenceNormHIdeal.Read.val_main_v12,
    Cert.ReferenceNormHIdeal.Read.val_main_v11,
    Cert.ReferenceNormHIdeal.Read.val_main_v10,
    Cert.ReferenceNormHIdeal.Read.val_main_v9,
    Cert.ReferenceNormHIdeal.Read.val_main_v8,
    Cert.ReferenceNormHIdeal.Read.val_main_v7,
    Cert.ReferenceNormHIdeal.Read.val_main_v6,
    Cert.ReferenceNormHIdeal.Read.val_main_v5,
    Cert.ReferenceNormHIdeal.Read.val_main_v4,
    Cert.ReferenceNormHIdeal.Read.val_main_v3,
    Cert.ReferenceNormHIdeal.Read.val_main_v2,
    Cert.ReferenceNormHIdeal.Read.val_main_v1,
    Cert.ReferenceNormHIdeal.Read.val_main_v0,
    Cert.ReferenceNormHIdeal.Read.val_main_cst,
    Cert.ReferenceNormHIdeal.Read.val_main_cst_0,
    Cert.ReferenceNormHIdeal.Read.val_main_cst_1]
  simp only [x_block m c t _ _ hr, g_block m c t]

/-- Every index of the result lies in some point's block. -/
theorem cover (i : S16384x4096.Idx) : ∃ t : Fin cfg0.N, (cfg0.win 2).flush t = true ∧ i ∈ ((cfg0.win 2).blk t).view.set := by
  have h0 : (i 0).val < 16384 := (i 0).isLt
  have h1 : (i 1).val < 4096 := (i 1).isLt
  let t : Fin cfg0.N := ⟨(i 0).val / 256, by show _ < grid0.N; rw [N_0]; omega⟩
  refine ⟨t, flush0_2 t, ?_⟩
  show i ∈ ((View.whole main_v2).slice (win0_2.rect t)).set
  rw [View.set_slice_whole, Rect.mem_set_unit]
  have e0 : win0_2.index t 0 = (i 0).val / 256 := by rw [(idx t).2.2.2.2.1]
  have e1 : win0_2.index t 1 = 0 := by rw [(idx t).2.2.2.2.2]
  intro a
  match a with
  | ⟨0, _⟩ => show win0_2.index t 0 * 256 ≤ (i 0).val ∧ (i 0).val < win0_2.index t 0 * 256 + 256; omega
  | ⟨1, _⟩ => show win0_2.index t 1 * 4096 ≤ (i 1).val ∧ (i 1).val < win0_2.index t 1 * 4096 + 4096; omega

/-- So the result array ends at the reference's value, -/
theorem final (c : Dev nD) : (dats m 0 c).arrAt 2 cfg0.N = G m c :=
  (dats m 0 c).arrAt_eq_of_cover 2 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelNormHIdeal.RefValue

end
-- ==== Proof.Values.Post.lean ====
/-
  The end of the mLSTM: the two directions summed, each head's row centred and divided by its deviation, scaled by the
  head's gains, and gated by the logistic function of the output gate.
-/
module

public import proofs.«01_k».proof.Proof.Gen.KernelPostIdeal.Value
public import proofs.«01_k».proof.Proof.Gen.ReferencePostIdeal.Run
public import proofs.«01_k».proof.Proof.Gen.ReferencePostIdeal.Read
public import proofs.«01_k».proof.Proof.Values.Common
public import Idealize.ShloMosaic.Lib.Pipeline.Value
public import Idealize.ShloMosaic.Lib.Pointwise

@[expose] public section

set_option maxRecDepth 16384

noncomputable section

namespace Cert.KernelPostIdeal.RefValue

open Layer Cert.KernelPostIdeal Cert.KernelPostIdeal.Gen Idealize.ShloMosaic Idealize.ShloMosaic.TcCoe Idealize.SL.Sem
open Idealize.ShloMosaic.Pipeline (Dat)

variable (m : (ℓ : Loc nD τ sig) → Buf (Elt Ideal) ℓ)

/-- The forward direction. -/
abbrev A (c : Dev nD) : FVec Ideal S16384x2048 .f32 := m ((c : Thread nD τ).loc main_arg0)
/-- The backward direction. -/
abbrev B (c : Dev nD) : FVec Ideal S16384x2048 .f32 := m ((c : Thread nD τ).loc main_arg1)
/-- The values and, after them, the output gates. -/
abbrev O (c : Dev nD) : FVec Ideal S16384x4096 .bf16 := m ((c : Thread nD τ).loc main_arg2)
/-- The gains. -/
abbrev Γ (c : Dev nD) : FVec Ideal S1x2048 .f32 := m ((c : Thread nD τ).loc main_arg3)

/-- What the reference computes of the same arguments. -/
abbrev G (c : Dev nD) : FVec Ideal S16384x2048 .bf16 :=
  Cert.ReferencePostIdeal.Read.val_main_v35 (F := Ideal) (A m c) (B m c) (O m c) (Γ m c)

/-- The gains as the region finds them. -/
theorem V_main_v1 (c : Dev nD) : V m c main_v1
    = shapeCast S1x2048 (shapeCast S2048 (Γ m c) shapeCasts_S1x2048_S2048) shapeCasts_S2048_S1x2048 := by
  show StableHlo.after hostOps0 (fun b => m (c, b)) (Proc.devRef .tc main_v1) = _
  after_results
  rfl

/-- The block each window is at: whole rows of the sums, the second half of the columns for the gates, the gains at every point. -/
theorem idx : ∀ t : Fin cfg0.N, win0_0.index t 0 = t.val ∧ win0_0.index t 1 = 0
    ∧ win0_1.index t 0 = t.val ∧ win0_1.index t 1 = 0
    ∧ win0_2.index t 0 = t.val ∧ win0_2.index t 1 = 1
    ∧ win0_3.index t 0 = 0 ∧ win0_3.index t 1 = 0
    ∧ win0_4.index t 0 = t.val ∧ win0_4.index t 1 = 0 :=
  (by decide +kernel : ∀ t : Fin grid0.N, win0_0.index t 0 = t.val ∧ win0_0.index t 1 = 0
    ∧ win0_1.index t 0 = t.val ∧ win0_1.index t 1 = 0
    ∧ win0_2.index t 0 = t.val ∧ win0_2.index t 1 = 1
    ∧ win0_3.index t 0 = 0 ∧ win0_3.index t 1 = 0
    ∧ win0_4.index t 0 = t.val ∧ win0_4.index t 1 = 0)

/-- A block of rows of the forward direction. -/
theorem a_block (c : Dev nD) (t : Fin cfg0.N) (r : Fin 256) (q : Fin 2048) (hr : t.val * 256 + r.val < 16384) :
    iblk m c 0 t (ix2 r q) = A m c (ix2 ⟨t.val * 256 + r.val, hr⟩ q) := by
  unfold iblk
  rw [View.read_apply]
  show V m c main_arg0 _ = _
  rw [V_main_arg0]
  show A m c _ = _
  congr 1
  funext a
  apply Fin.ext
  match a with
  | ⟨0, _⟩ => show win0_0.index t 0 * 256 + 1 * r.val = _; rw [(idx t).1]; simp
  | ⟨1, _⟩ => show win0_0.index t 1 * 2048 + 1 * q.val = _; rw [(idx t).2.1]; simp

/-- A block of rows of the backward direction. -/
theorem b_block (c : Dev nD) (t : Fin cfg0.N) (r : Fin 256) (q : Fin 2048) (hr : t.val * 256 + r.val < 16384) :
    iblk m c 1 t (ix2 r q) = B m c (ix2 ⟨t.val * 256 + r.val, hr⟩ q) := by
  unfold iblk
  rw [View.read_apply]
  show V m c main_arg1 _ = _
  rw [V_main_arg1]
  show B m c _ = _
  congr 1
  funext a
  apply Fin.ext
  match a with
  | ⟨0, _⟩ => show win0_1.index t 0 * 256 + 1 * r.val = _; rw [(idx t).2.2.1]; simp
  | ⟨1, _⟩ => show win0_1.index t 1 * 2048 + 1 * q.val = _; rw [(idx t).2.2.2.1]; simp

/-- A block of rows of the output gates. -/
theorem o_block (c : Dev nD) (t : Fin cfg0.N) (r : Fin 256) (q : Fin 2048) (hr : t.val * 256 + r.val < 16384) :
    iblk m c 2 t (ix2 r q) = O m c (ix2 ⟨t.val * 256 + r.val, hr⟩ ⟨2048 + q.val, by omega⟩) := by
  unfold iblk
  rw [View.read_apply]
  show V m c main_arg2 _ = _
  rw [V_main_arg2]
  show O m c _ = _
  congr 1
  funext a
  apply Fin.ext
  match a with
  | ⟨0, _⟩ => show win0_2.index t 0 * 256 + 1 * r.val = _; rw [(idx t).2.2.2.2.1]; simp
  | ⟨1, _⟩ => show win0_2.index t 1 * 2048 + 1 * q.val = _; rw [(idx t).2.2.2.2.2.1]; simp

/-- The gains at an index. -/
theorem g_block (c : Dev nD) (t : Fin cfg0.N) (r : Fin 1) (q : Fin 2048) :
    iblk m c 3 t (ix2 r q) = Γ m c (ix2 r q) := by
  have e : (((cfg0.win 3).blk t).view.emb (ix2 r q) : S1x2048.Idx) = ix2 r q := by
    funext a
    apply Fin.ext
    match a with
    | ⟨0, _⟩ => show win0_3.index t 0 * 1 + 1 * r.val = _; rw [(idx t).2.2.2.2.2.2.1]; simp
    | ⟨1, _⟩ => show win0_3.index t 1 * 2048 + 1 * q.val = _; rw [(idx t).2.2.2.2.2.2.2.1]; simp
  unfold iblk
  rw [View.read_apply]
  show V m c main_v1 _ = _
  rw [e, V_main_v1]
  generalize Γ m c = w
  pointwise

set_option maxHeartbeats 2000000 in
/-- One head of one row: whatever the four blocks are, when they hold the row's sums, gains and gates of head `h`, the
    payload is the reference's value there. -/
theorem head (c : Dev nD) (R : Fin 16384) (r q : Fin 256) (h : Nat) (hh : h < 8)
    (a b : Vec Ideal S256x256 .f32) (w : Vec Ideal S1x256 .f32) (o : Vec Ideal S256x256 .bf16)
    (ha : ∀ s : Fin 256, a (ix2 r s) = A m c (ix2 R ⟨h * 256 + s.val, by omega⟩))
    (hb : ∀ s : Fin 256, b (ix2 r s) = B m c (ix2 R ⟨h * 256 + s.val, by omega⟩))
    (hw : w (ix2 0 q) = Γ m c (ix2 0 ⟨h * 256 + q.val, by omega⟩))
    (ho : o (ix2 r q) = O m c (ix2 R ⟨2048 + (h * 256 + q.val), by omega⟩)) :
    k0_pay2 (F := Ideal) a b w o (ix2 r q) = G m c (ix2 R ⟨h * 256 + q.val, by omega⟩) := by
  have hR : R.val < 16384 := R.isLt
  unfold k0_pay2 G
  pointwise [Cert.ReferencePostIdeal.Read.val_main_v35,
    Cert.ReferencePostIdeal.Read.val_main_v34,
    Cert.ReferencePostIdeal.Read.val_main_v33,
    Cert.ReferencePostIdeal.Read.val_main_v32,
    Cert.ReferencePostIdeal.Read.val_main_v31,
    Cert.ReferencePostIdeal.Read.val_main_cst_5,
    Cert.ReferencePostIdeal.Read.val_main_v30,
    Cert.ReferencePostIdeal.Read.val_main_v29,
    Cert.ReferencePostIdeal.Read.val_main_cst_4,
    Cert.ReferencePostIdeal.Read.val_main_v28,
    Cert.ReferencePostIdeal.Read.val_main_v27,
    Cert.ReferencePostIdeal.Read.val_main_v26,
    Cert.ReferencePostIdeal.Read.val_main_v25,
    Cert.ReferencePostIdeal.Read.val_main_v24,
    Cert.ReferencePostIdeal.Read.val_main_v23,
    Cert.ReferencePostIdeal.Read.val_main_v22,
    Cert.ReferencePostIdeal.Read.val_main_v21,
    Cert.ReferencePostIdeal.Read.val_main_v20,
    Cert.ReferencePostIdeal.Read.val_main_v19,
    Cert.ReferencePostIdeal.Read.val_main_v18,
    Cert.ReferencePostIdeal.Read.val_main_v17,
    Cert.ReferencePostIdeal.Read.val_main_v16,
    Cert.ReferencePostIdeal.Read.val_main_v15,
    Cert.ReferencePostIdeal.Read.val_main_cst_3,
    Cert.ReferencePostIdeal.Read.val_main_v14,
    Cert.ReferencePostIdeal.Read.val_main_v13,
    Cert.ReferencePostIdeal.Read.val_main_v12,
    Cert.ReferencePostIdeal.Read.val_main_v11,
    Cert.ReferencePostIdeal.Read.val_main_cst_2,
    Cert.ReferencePostIdeal.Read.val_main_v10,
    Cert.ReferencePostIdeal.Read.val_main_v9,
    Cert.ReferencePostIdeal.Read.val_main_cst_1,
    Cert.ReferencePostIdeal.Read.val_main_v8,
    Cert.ReferencePostIdeal.Read.val_main_v7,
    Cert.ReferencePostIdeal.Read.val_main_v6,
    Cert.ReferencePostIdeal.Read.val_main_v5,
    Cert.ReferencePostIdeal.Read.val_main_v4,
    Cert.ReferencePostIdeal.Read.val_main_cst_0,
    Cert.ReferencePostIdeal.Read.val_main_v3,
    Cert.ReferencePostIdeal.Read.val_main_v2,
    Cert.ReferencePostIdeal.Read.val_main_cst,
    Cert.ReferencePostIdeal.Read.val_main_v1,
    Cert.ReferencePostIdeal.Read.val_main_v0]
  rw [ho]
  refine congrArg₂ (· * ·) (half_tanh _) ?_
  have hd : (h * 256 + q.val) / 256 = h := by omega
  simp only [hd, ha, hb, hw]

/-- What a point writes back is its block of the reference's value: each of its eight pieces is one head's columns. -/
theorem flushed_eq (c : Dev nD) (t : Fin cfg0.N) :
    (dats m 0 c).flushed 4 t = ((cfg0.win 4).blk t).view.read (Elt Ideal) (G m c) := by
  rw [Value.flushed4]
  funext j
  rw [View.read_apply]
  show out0_4 (F := Ideal) (iblk m c 0 t) (iblk m c 1 t) (iblk m c 2 t) (iblk m c 3 t) j = G m c _
  have ht : t.val < 64 := lt_of_lt_of_eq t.isLt N_0
  have e : ∀ (r : Fin 256) (q : Fin 2048), (((cfg0.win 4).blk t).view.emb (ix2 r q) : S16384x2048.Idx)
      = ix2 ⟨t.val * 256 + r.val, by omega⟩ q := by
    intro r q
    funext a
    apply Fin.ext
    match a with
    | ⟨0, _⟩ => show win0_4.index t 0 * 256 + 1 * r.val = _; rw [(idx t).2.2.2.2.2.2.2.2.1]; simp
    | ⟨1, _⟩ => show win0_4.index t 1 * 2048 + 1 * q.val = _; rw [(idx t).2.2.2.2.2.2.2.2.2]; simp
  have piece : ∀ (h : Nat) (hh : h < 8) (i0 : ∀ a, (![0, h * 256] : Fin 2 → Nat) a + S256x256.size a ≤ S256x2048.size a)
      (i1 : ∀ a, (![0, h * 256] : Fin 2 → Nat) a + S1x256.size a ≤ S1x2048.size a) (x : S256x256.Idx),
      k0_pay2 (F := Ideal) (View.ld (iblk m c 0 t) (Rect.unit (s := S256x2048) ![0, h * 256] S256x256.size i0))
        (View.ld (iblk m c 1 t) (Rect.unit (s := S256x2048) ![0, h * 256] S256x256.size i0))
        (View.ld (iblk m c 3 t) (Rect.unit (s := S1x2048) ![0, h * 256] S1x256.size i1))
        (View.ld (iblk m c 2 t) (Rect.unit (s := S256x2048) ![0, h * 256] S256x256.size i0)) x
      = G m c (((cfg0.win 4).blk t).view.emb ((Rect.unit (s := S256x2048) ![0, h * 256] S256x256.size i0).emb x)) := by
    intro h hh i0 i1 x
    idx_vars x
    have ex : ∀ s : Fin 256, (Rect.unit (s := S256x2048) ![0, h * 256] S256x256.size i0).idx (ix2 x0 s)
        = ix2 x0 ⟨h * 256 + s.val, by omega⟩ := by
      intro s
      funext a
      apply Fin.ext
      match a with
      | ⟨0, _⟩ => show 0 + 1 * x0.val = x0.val; omega
      | ⟨1, _⟩ => show h * 256 + 1 * s.val = h * 256 + s.val; omega
    have ew : (Rect.unit (s := S1x2048) ![0, h * 256] S1x256.size i1).idx (ix2 0 x1)
        = ix2 0 ⟨h * 256 + x1.val, by omega⟩ := by
      funext a
      apply Fin.ext
      match a with
      | ⟨0, _⟩ => show 0 + 1 * 0 = 0; rfl
      | ⟨1, _⟩ => show h * 256 + 1 * x1.val = h * 256 + x1.val; omega
    have ee := e x0 ⟨h * 256 + x1.val, by omega⟩
    rw [← ex x1] at ee
    rw [show (Rect.unit (s := S256x2048) ![0, h * 256] S256x256.size i0).emb (ix2 x0 x1)
      = (Rect.unit (s := S256x2048) ![0, h * 256] S256x256.size i0).idx (ix2 x0 x1) from rfl, ee]
    refine head m c ⟨t.val * 256 + x0.val, by omega⟩ x0 x1 h hh _ _ _ _ ?_ ?_ ?_ ?_
    · intro s; show iblk m c 0 t (_ : S256x2048.Idx) = _; rw [ex s, a_block m c t _ _ (by omega)]
    · intro s; show iblk m c 1 t (_ : S256x2048.Idx) = _; rw [ex s, b_block m c t _ _ (by omega)]
    · show iblk m c 3 t (_ : S1x2048.Idx) = _; rw [ew, g_block m c t]
    · show iblk m c 2 t (_ : S256x2048.Idx) = _; rw [ex x1, o_block m c t _ _ (by omega)]
  unfold out0_4
  refine View.canon_apply_of_pieces (Val := Elt Ideal) (e := .bf16) (fun y : S256x2048.Idx => G m c (((cfg0.win 4).blk t).view.emb y)) _ ?_ j (cover0_4 _ _ _ _ _ _ _ _ j)
  intro p hp
  simp only [List.mem_cons, List.not_mem_nil, or_false] at hp
  rcases hp with rfl | rfl | rfl | rfl | rfl | rfl | rfl | rfl
  · exact piece 7 (by decide) inb_S256x2048_S256x256_0_1792 inb_S1x2048_S1x256_0_1792
  · exact piece 6 (by decide) inb_S256x2048_S256x256_0_1536 inb_S1x2048_S1x256_0_1536
  · exact piece 5 (by decide) inb_S256x2048_S256x256_0_1280 inb_S1x2048_S1x256_0_1280
  · exact piece 4 (by decide) inb_S256x2048_S256x256_0_1024 inb_S1x2048_S1x256_0_1024
  · exact piece 3 (by decide) inb_S256x2048_S256x256_0_768 inb_S1x2048_S1x256_0_768
  · exact piece 2 (by decide) inb_S256x2048_S256x256_0_512 inb_S1x2048_S1x256_0_512
  · exact piece 1 (by decide) inb_S256x2048_S256x256_0_256 inb_S1x2048_S1x256_0_256
  · exact piece 0 (by decide) inb_S256x2048_S256x256_0_0 inb_S1x2048_S1x256_0_0

/-- Every index of the result lies in some point's block. -/
theorem cover (i : S16384x2048.Idx) : ∃ t : Fin cfg0.N, (cfg0.win 4).flush t = true ∧ i ∈ ((cfg0.win 4).blk t).view.set := by
  have h0 : (i 0).val < 16384 := (i 0).isLt
  have h1 : (i 1).val < 2048 := (i 1).isLt
  let t : Fin cfg0.N := ⟨(i 0).val / 256, by show _ < grid0.N; rw [N_0]; omega⟩
  refine ⟨t, flush0_4 t, ?_⟩
  show i ∈ ((View.whole main_v2).slice (win0_4.rect t)).set
  rw [View.set_slice_whole, Rect.mem_set_unit]
  have e0 : win0_4.index t 0 = (i 0).val / 256 := by rw [(idx t).2.2.2.2.2.2.2.2.1]
  have e1 : win0_4.index t 1 = 0 := by rw [(idx t).2.2.2.2.2.2.2.2.2]
  intro a
  match a with
  | ⟨0, _⟩ => show win0_4.index t 0 * 256 ≤ (i 0).val ∧ (i 0).val < win0_4.index t 0 * 256 + 256; omega
  | ⟨1, _⟩ => show win0_4.index t 1 * 2048 ≤ (i 1).val ∧ (i 1).val < win0_4.index t 1 * 2048 + 2048; omega

/-- So the result array ends at the reference's value, -/
theorem final (c : Dev nD) : (dats m 0 c).arrAt 4 cfg0.N = G m c :=
  (dats m 0 c).arrAt_eq_of_cover 4 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.KernelPostIdeal.RefValue

end
-- ==== Proof.Values.Conv.lean ====
/-
  The short convolution over time that precedes the mLSTM's queries and keys, its SiLU, and the scale of the keys.
-/
module

public import proofs.«01_k».proof.Proof.Gen.KernelConvIdeal.Value
public import proofs.«01_k».proof.Proof.Gen.ReferenceConvIdeal.Run
public import proofs.«01_k».proof.Proof.Gen.ReferenceConvIdeal.Read
public import proofs.«01_k».proof.Proof.Values.Common
public import Idealize.ShloMosaic.Lib.Pipeline.Value
public import Idealize.ShloMosaic.Lib.Pipeline.ValueKit
public import Idealize.ShloMosaic.Lib.Pointwise

@[expose] public section

set_option maxRecDepth 16384

noncomputable section

namespace Cert.KernelConvIdeal.RefValue

open Layer Cert.KernelConvIdeal Cert.KernelConvIdeal.Gen Idealize.ShloMosaic Idealize.ShloMosaic.TcCoe Idealize.SL.Sem
open Idealize.ShloMosaic.Pipeline (Dat)

variable (m : (ℓ : Loc nD τ sig) → Buf (Elt Ideal) ℓ)

/-- The projected queries and keys. -/
abbrev X (c : Dev nD) : FVec Ideal S16384x4096 .bf16 := m ((c : Thread nD τ).loc main_arg0)
/-- The five taps of each column. -/
abbrev W (c : Dev nD) : FVec Ideal S1x5x4096 .f32 := m ((c : Thread nD τ).loc main_arg1)
/-- The bias. -/
abbrev B (c : Dev nD) : FVec Ideal S1x4096 .f32 := m ((c : Thread nD τ).loc main_arg2)

/-- What the reference computes of the same arguments. -/
abbrev G (c : Dev nD) : FVec Ideal S2x8192x4096 .bf16 :=
  Cert.ReferenceConvIdeal.Read.val_main_v49 (F := Ideal) (X m c) (W m c) (B m c)

/-- The input as the region finds it. -/
theorem V_main_v5 (c : Dev nD) : V m c main_v5
    = shapeCast S2x8192x4096 (X m c) shapeCasts_S16384x4096_S2x8192x4096 := by
  show StableHlo.after hostOps0 (fun b => m (c, b)) (Proc.devRef .tc main_v5) = _
  after_results
  rfl

/-- The taps as the region finds them. -/
theorem V_main_v3 (c : Dev nD) : V m c main_v3
    = shapeCast S5x4096 (W m c) shapeCasts_S1x5x4096_S5x4096 := by
  show StableHlo.after hostOps0 (fun b => m (c, b)) (Proc.devRef .tc main_v3) = _
  after_results
  rfl

/-- The bias as the region finds it. -/
theorem V_main_v6 (c : Dev nD) : V m c main_v6
    = shapeCast S1x4096 (shapeCast S4096 (B m c) shapeCasts_S1x4096_S4096) shapeCasts_S4096_S1x4096 := by
  show StableHlo.after hostOps0 (fun b => m (c, b)) (Proc.devRef .tc main_v6) = _
  after_results
  rfl

/-- The scales as the region finds them: one for the queries, a sixteenth for the keys. -/
theorem V_main_v7 (c : Dev nD) : V m c main_v7
    = shapeCast S1x4096 (concatenate S4096 0 [⟨S2048, broadcastInDim S2048 ![] bcast_S_S2048 (constant (F := Ideal) S_ .f32 0x3F800000#32)⟩,
        ⟨S2048, broadcastInDim S2048 ![] bcast_S_S2048 (constant (F := Ideal) S_ .f32 0x3D800000#32)⟩] concatenates_S2048_S2048_S4096_d0)
        shapeCasts_S4096_S1x4096 := by
  show StableHlo.after hostOps0 (fun b => m (c, b)) (Proc.devRef .tc main_v7) = _
  after_results
  rfl

/-- The block each window is at: 512 rows by 512 columns, the rows just before and just after them, and the columns of the weights. -/
theorem idx : ∀ t : Fin cfg0.N, win0_0.index t 0 = t.val / 128 ∧ win0_0.index t 1 = t.val / 8 % 16 * 64 - 1 ∧ win0_0.index t 2 = t.val % 8
    ∧ win0_1.index t 0 = t.val / 128 ∧ win0_1.index t 1 = t.val / 8 % 16 ∧ win0_1.index t 2 = t.val % 8
    ∧ win0_2.index t 0 = t.val / 128 ∧ win0_2.index t 1 = min ((t.val / 8 % 16 + 1) * 64) 1023 ∧ win0_2.index t 2 = t.val % 8
    ∧ win0_3.index t 0 = 0 ∧ win0_3.index t 1 = t.val % 8
    ∧ win0_4.index t 0 = 0 ∧ win0_4.index t 1 = t.val % 8
    ∧ win0_5.index t 0 = 0 ∧ win0_5.index t 1 = t.val % 8
    ∧ win0_6.index t 0 = t.val / 128 ∧ win0_6.index t 1 = t.val / 8 % 16 ∧ win0_6.index t 2 = t.val % 8
    ∧ (grid0.coords t 1).val = t.val / 8 % 16 :=
  (by decide +kernel : ∀ t : Fin grid0.N, win0_0.index t 0 = t.val / 128 ∧ win0_0.index t 1 = t.val / 8 % 16 * 64 - 1 ∧ win0_0.index t 2 = t.val % 8
    ∧ win0_1.index t 0 = t.val / 128 ∧ win0_1.index t 1 = t.val / 8 % 16 ∧ win0_1.index t 2 = t.val % 8
    ∧ win0_2.index t 0 = t.val / 128 ∧ win0_2.index t 1 = min ((t.val / 8 % 16 + 1) * 64) 1023 ∧ win0_2.index t 2 = t.val % 8
    ∧ win0_3.index t 0 = 0 ∧ win0_3.index t 1 = t.val % 8
    ∧ win0_4.index t 0 = 0 ∧ win0_4.index t 1 = t.val % 8
    ∧ win0_5.index t 0 = 0 ∧ win0_5.index t 1 = t.val % 8
    ∧ win0_6.index t 0 = t.val / 128 ∧ win0_6.index t 1 = t.val / 8 % 16 ∧ win0_6.index t 2 = t.val % 8
    ∧ (grid0.coords t 1).val = t.val / 8 % 16)

/-- The rows just before the block. -/
theorem prev_block (c : Dev nD) (t : Fin cfg0.N) (r : Fin 8) (q : Fin 512) (P : Fin 16384) (hP : P.val + 8 = t.val / 128 * 8192 + t.val / 8 % 16 * 512 + r.val) (ht0 : 0 < t.val / 8 % 16) :
    iblk m c 0 t (ix3 0 r q) = X m c (ix2 P ⟨t.val % 8 * 512 + q.val, by omega⟩) := by
  have ht : t.val < 256 := lt_of_lt_of_eq t.isLt N_0
  have hP' : P.val < 16384 := P.isLt
  have e : (((cfg0.win 0).blk t).view.emb (ix3 0 r q) : S2x8192x4096.Idx)
      = ix3 ⟨t.val / 128, by omega⟩ ⟨(t.val / 8 % 16 * 64 - 1) * 8 + r.val, by omega⟩ ⟨t.val % 8 * 512 + q.val, by omega⟩ := by
    funext a
    apply Fin.ext
    match a with
    | ⟨0, _⟩ => show win0_0.index t 0 * 1 + 1 * 0 = _; rw [(idx t).1]; simp
    | ⟨1, _⟩ => show win0_0.index t 1 * 8 + 1 * r.val = _; rw [(idx t).2.1]; simp only [one_mul]; rfl
    | ⟨2, _⟩ => show win0_0.index t 2 * 512 + 1 * q.val = _; rw [(idx t).2.2.1]; simp
  unfold iblk
  rw [View.read_apply]
  show V m c main_v5 _ = _
  rw [e, V_main_v5]
  generalize X m c = x
  pointwise
  congr 2
  apply Fin.ext
  show t.val / 128 * 8192 + ((t.val / 8 % 16 * 64 - 1) * 8 + r.val) = P.val
  omega

/-- The rows of the block. -/
theorem cur_block (c : Dev nD) (t : Fin cfg0.N) (r : Fin 512) (q : Fin 512) (P : Fin 16384) (hP : P.val = t.val / 128 * 8192 + t.val / 8 % 16 * 512 + r.val) :
    iblk m c 1 t (ix3 0 r q) = X m c (ix2 P ⟨t.val % 8 * 512 + q.val, by omega⟩) := by
  have ht : t.val < 256 := lt_of_lt_of_eq t.isLt N_0
  have hP' : P.val < 16384 := P.isLt
  have e : (((cfg0.win 1).blk t).view.emb (ix3 0 r q) : S2x8192x4096.Idx)
      = ix3 ⟨t.val / 128, by omega⟩ ⟨t.val / 8 % 16 * 512 + r.val, by omega⟩ ⟨t.val % 8 * 512 + q.val, by omega⟩ := by
    funext a
    apply Fin.ext
    match a with
    | ⟨0, _⟩ => show win0_1.index t 0 * 1 + 1 * 0 = _; rw [(idx t).2.2.2.1]; simp
    | ⟨1, _⟩ => show win0_1.index t 1 * 512 + 1 * r.val = _; rw [(idx t).2.2.2.2.1]; simp only [one_mul]; rfl
    | ⟨2, _⟩ => show win0_1.index t 2 * 512 + 1 * q.val = _; rw [(idx t).2.2.2.2.2.1]; simp
  unfold iblk
  rw [View.read_apply]
  show V m c main_v5 _ = _
  rw [e, V_main_v5]
  generalize X m c = x
  pointwise
  congr 2
  apply Fin.ext
  show t.val / 128 * 8192 + (t.val / 8 % 16 * 512 + r.val) = P.val
  omega

/-- The rows just after the block. -/
theorem next_block (c : Dev nD) (t : Fin cfg0.N) (r : Fin 8) (q : Fin 512) (P : Fin 16384) (hP : P.val = t.val / 128 * 8192 + t.val / 8 % 16 * 512 + 512 + r.val) (ht0 : t.val / 8 % 16 < 15) :
    iblk m c 2 t (ix3 0 r q) = X m c (ix2 P ⟨t.val % 8 * 512 + q.val, by omega⟩) := by
  have ht : t.val < 256 := lt_of_lt_of_eq t.isLt N_0
  have hP' : P.val < 16384 := P.isLt
  have e : (((cfg0.win 2).blk t).view.emb (ix3 0 r q) : S2x8192x4096.Idx)
      = ix3 ⟨t.val / 128, by omega⟩ ⟨min ((t.val / 8 % 16 + 1) * 64) 1023 * 8 + r.val, by omega⟩ ⟨t.val % 8 * 512 + q.val, by omega⟩ := by
    funext a
    apply Fin.ext
    match a with
    | ⟨0, _⟩ => show win0_2.index t 0 * 1 + 1 * 0 = _; rw [(idx t).2.2.2.2.2.2.1]; simp
    | ⟨1, _⟩ => show win0_2.index t 1 * 8 + 1 * r.val = _; rw [(idx t).2.2.2.2.2.2.2.1]; simp only [one_mul]; rfl
    | ⟨2, _⟩ => show win0_2.index t 2 * 512 + 1 * q.val = _; rw [(idx t).2.2.2.2.2.2.2.2.1]; simp
  unfold iblk
  rw [View.read_apply]
  show V m c main_v5 _ = _
  rw [e, V_main_v5]
  generalize X m c = x
  pointwise
  congr 2
  apply Fin.ext
  show t.val / 128 * 8192 + (min ((t.val / 8 % 16 + 1) * 64) 1023 * 8 + r.val) = P.val
  omega

/-- The taps of the columns. -/
theorem w_block (c : Dev nD) (t : Fin cfg0.N) (r : Fin 5) (q : Fin 512) :
    iblk m c 3 t (ix2 r q) = W m c (ix3 0 r ⟨t.val % 8 * 512 + q.val, by omega⟩) := by
  have e : (((cfg0.win 3).blk t).view.emb (ix2 r q) : S5x4096.Idx) = ix2 r ⟨t.val % 8 * 512 + q.val, by omega⟩ := by
    funext a
    apply Fin.ext
    match a with
    | ⟨0, _⟩ => show win0_3.index t 0 * 5 + 1 * r.val = _; rw [(idx t).2.2.2.2.2.2.2.2.2.1]; simp
    | ⟨1, _⟩ => show win0_3.index t 1 * 512 + 1 * q.val = _; rw [(idx t).2.2.2.2.2.2.2.2.2.2.1]; simp
  unfold iblk
  rw [View.read_apply]
  show V m c main_v3 _ = _
  rw [e, V_main_v3]
  generalize W m c = w
  pointwise

/-- The bias of the columns. -/
theorem b_block (c : Dev nD) (t : Fin cfg0.N) (q : Fin 512) :
    iblk m c 4 t (ix2 0 q) = B m c (ix2 0 ⟨t.val % 8 * 512 + q.val, by omega⟩) := by
  have e : (((cfg0.win 4).blk t).view.emb (ix2 0 q) : S1x4096.Idx) = ix2 0 ⟨t.val % 8 * 512 + q.val, by omega⟩ := by
    funext a
    apply Fin.ext
    match a with
    | ⟨0, _⟩ => show win0_4.index t 0 * 1 + 1 * 0 = _; rw [(idx t).2.2.2.2.2.2.2.2.2.2.2.1]; simp
    | ⟨1, _⟩ => show win0_4.index t 1 * 512 + 1 * q.val = _; rw [(idx t).2.2.2.2.2.2.2.2.2.2.2.2.1]; simp
  unfold iblk
  rw [View.read_apply]
  show V m c main_v6 _ = _
  rw [e, V_main_v6]
  generalize B m c = w
  pointwise

/-- The scales of the columns. -/
theorem s_block (c : Dev nD) (t : Fin cfg0.N) (q : Fin 512) :
    iblk m c 5 t (ix2 0 q) = if t.val % 8 < 4 then (1 : EReal) else Scalar.ofBits (F := Ideal) .f32 0x3D800000#32 := by
  have ht : t.val < 256 := lt_of_lt_of_eq t.isLt N_0
  have e : (((cfg0.win 5).blk t).view.emb (ix2 0 q) : S1x4096.Idx) = ix2 0 ⟨t.val % 8 * 512 + q.val, by omega⟩ := by
    funext a
    apply Fin.ext
    match a with
    | ⟨0, _⟩ => show win0_5.index t 0 * 1 + 1 * 0 = _; rw [(idx t).2.2.2.2.2.2.2.2.2.2.2.2.2.1]; simp
    | ⟨1, _⟩ => show win0_5.index t 1 * 512 + 1 * q.val = _; rw [(idx t).2.2.2.2.2.2.2.2.2.2.2.2.2.2.1]; simp
  unfold iblk
  rw [View.read_apply]
  show V m c main_v7 _ = _
  rw [e, V_main_v7]
  pointwise
  have hq := q.isLt
  by_cases h : t.val % 8 < 4
  · rw [if_pos h, dif_pos (by omega)]
  · rw [if_neg h, dif_neg (by omega)]

/-- A column of the input between zeros: position `v` of sequence `b`, eight positions of zeros before the first. -/
def Z (c : Dev nD) (b v : Nat) (Q : Fin 4096) : EReal :=
  if h : 8 ≤ v ∧ v < 8200 ∧ b < 2 then X m c (ix2 ⟨b * 8192 + (v - 8), by omega⟩ Q) else 0

/-- The same column where two positions of zeros come before the first. -/
theorem Z_pad (c : Dev nD) (b : Fin 2) (v u : Nat) (h : v = u + 6) (Q : Fin 4096) :
    Z m c b.val v Q = if h : 2 ≤ u ∧ u - 2 < 8192 then X m c (ix2 ⟨b.val * 8192 + (u - 2), by omega⟩ Q)
      else FloatOps.sitofp (F := Ideal) .f32 0#32 := by
  have hb := b.isLt
  unfold Z
  subst h
  split
  · next h1 => rw [dif_pos ⟨by omega, by omega⟩]; congr 3
  · next h1 =>
    rw [dif_neg (fun h2 => h1 ⟨by omega, by omega, hb⟩)]
    show (0 : EReal) = (((0#32 : BitVec 32).toInt : ℝ) : EReal)
    simp

/-- Whether a block is the first, -/
theorem is_first : ∀ T : Fin 16, Scalar.cmpi .sgt (BitVec.ofNat 32 T.val) 0#32 = if 0 < T.val then 1#1 else 0#1 := by decide

/-- and whether it is the last. -/
theorem is_last : ∀ T : Fin 16, Scalar.cmpi .slt (BitVec.ofNat 32 T.val) 15#32 = if T.val < 15 then 1#1 else 0#1 := by decide

/-- The rows just before the block, zeros before the first block. -/
theorem before (c : Dev nD) (t : Fin cfg0.N) (r : Fin 8) (q : Fin 512) :
    k0_pay2 (F := Ideal) (grid0.coords t) (iblk m c 0 t) (ix2 r q)
      = Z m c (t.val / 128) (t.val / 8 % 16 * 512 + r.val) ⟨t.val % 8 * 512 + q.val, by omega⟩ := by
  have ht : t.val < 256 := lt_of_lt_of_eq t.isLt N_0
  unfold k0_pay2 Z
  pointwise
  rw [(idx t).2.2.2.2.2.2.2.2.2.2.2.2.2.2.2.2.2.2, is_first ⟨t.val / 8 % 16, by omega⟩]
  have hr := r.isLt
  by_cases h : 0 < t.val / 8 % 16
  · rw [if_pos h, dif_pos ⟨by omega, by omega, by omega⟩]
    exact prev_block m c t r q _ (by show _ + (_ - 8) + 8 = _; omega) h
  · rw [if_neg h, dif_neg (by omega)]
    rfl

/-- The rows of the block. -/
theorem within (c : Dev nD) (t : Fin cfg0.N) (r : Fin 512) (q : Fin 512) :
    k0_pay3 (F := Ideal) (iblk m c 1 t) (ix2 r q)
      = Z m c (t.val / 128) (t.val / 8 % 16 * 512 + (8 + r.val)) ⟨t.val % 8 * 512 + q.val, by omega⟩ := by
  have ht : t.val < 256 := lt_of_lt_of_eq t.isLt N_0
  unfold k0_pay3 Z
  pointwise
  have hr := r.isLt
  rw [dif_pos ⟨by omega, by omega, by omega⟩]
  exact cur_block m c t r q _ (by show _ + (_ - 8) = _; omega)

/-- The rows just after the block, zeros after the last block. -/
theorem behind (c : Dev nD) (t : Fin cfg0.N) (r : Fin 8) (q : Fin 512) :
    k0_pay4 (F := Ideal) (grid0.coords t) (iblk m c 2 t) (ix2 r q)
      = Z m c (t.val / 128) (t.val / 8 % 16 * 512 + (520 + r.val)) ⟨t.val % 8 * 512 + q.val, by omega⟩ := by
  have ht : t.val < 256 := lt_of_lt_of_eq t.isLt N_0
  unfold k0_pay4 Z
  pointwise
  rw [(idx t).2.2.2.2.2.2.2.2.2.2.2.2.2.2.2.2.2.2, is_last ⟨t.val / 8 % 16, by omega⟩]
  have hr := r.isLt
  by_cases h : t.val / 8 % 16 < 15
  · rw [if_pos h, dif_pos ⟨by omega, by omega, by omega⟩]
    exact next_block m c t r q _ (by show _ + (_ - 8) = _; omega) h
  · rw [if_neg h, dif_neg (by omega)]
    rfl

/-- The three pieces side by side are the column between zeros. -/
theorem scratch (c : Dev nD) (t : Fin cfg0.N) (p : Fin 528) (q : Fin 512) :
    View.canon (Val := Elt Ideal) (e := .f32)
      [⟨Rect.unit (s := S528x512) ![520, 0] S8x512.size inb_S528x512_S8x512_520_0, k0_pay4 (grid0.coords t) (iblk m c 2 t)⟩,
        ⟨Rect.unit (s := S528x512) ![8, 0] S512x512.size inb_S528x512_S512x512_8_0, k0_pay3 (iblk m c 1 t)⟩,
        ⟨Rect.unit (s := S528x512) ![0, 0] S8x512.size inb_S528x512_S8x512_0_0, k0_pay2 (grid0.coords t) (iblk m c 0 t)⟩] (ix2 p q)
      = Z m c (t.val / 128) (t.val / 8 % 16 * 512 + p.val) ⟨t.val % 8 * 512 + q.val, by omega⟩ := by
  refine View.canon_apply_of_pieces (Val := Elt Ideal) (e := .f32)
    (fun y : S528x512.Idx => Z m c (t.val / 128) (t.val / 8 % 16 * 512 + (y 0).val)
      ⟨t.val % 8 * 512 + (y 1).val, by have h1 : (y 1).val < 512 := (y 1).isLt; omega⟩) _ ?_ (ix2 p q) ?_
  · intro pc hp
    simp only [List.mem_cons, List.not_mem_nil, or_false] at hp
    rcases hp with rfl | rfl | rfl
    · intro x
      idx_vars x
      refine (behind m c t x0 x1).trans ?_
      have e0 : ((Rect.unit (s := S528x512) ![520, 0] S8x512.size inb_S528x512_S8x512_520_0).emb (ix2 x0 x1) 0).val = 520 + x0.val := by show 520 + 1 * x0.val = _; omega
      have e1 : ((Rect.unit (s := S528x512) ![520, 0] S8x512.size inb_S528x512_S8x512_520_0).emb (ix2 x0 x1) 1).val = x1.val := by show 0 + 1 * x1.val = _; omega
      simp only [e0, e1]
    · intro x
      idx_vars x
      refine (within m c t x0 x1).trans ?_
      have e0 : ((Rect.unit (s := S528x512) ![8, 0] S512x512.size inb_S528x512_S512x512_8_0).emb (ix2 x0 x1) 0).val = 8 + x0.val := by show 8 + 1 * x0.val = _; omega
      have e1 : ((Rect.unit (s := S528x512) ![8, 0] S512x512.size inb_S528x512_S512x512_8_0).emb (ix2 x0 x1) 1).val = x1.val := by show 0 + 1 * x1.val = _; omega
      simp only [e0, e1]
    · intro x
      idx_vars x
      refine (before m c t x0 x1).trans ?_
      have e0 : ((Rect.unit (s := S528x512) ![0, 0] S8x512.size inb_S528x512_S8x512_0_0).emb (ix2 x0 x1) 0).val = 0 + x0.val := by show 0 + 1 * x0.val = _; omega
      have e1 : ((Rect.unit (s := S528x512) ![0, 0] S8x512.size inb_S528x512_S8x512_0_0).emb (ix2 x0 x1) 1).val = x1.val := by show 0 + 1 * x1.val = _; omega
      simp only [e0, e1, Nat.zero_add]
  · have hp := p.isLt
    have hq := q.isLt
    by_cases h8 : p.val < 8
    · refine ⟨_, .tail _ (.tail _ (.head _)), ?_⟩
      show ix2 p q ∈ (Rect.unit (s := S528x512) ![0, 0] S8x512.size inb_S528x512_S8x512_0_0).set
      rw [Rect.mem_set_unit]
      intro a
      match a with
      | ⟨0, _⟩ => show 0 ≤ p.val ∧ p.val < 0 + 8; omega
      | ⟨1, _⟩ => show 0 ≤ q.val ∧ q.val < 0 + 512; omega
    · by_cases h9 : p.val < 520
      · refine ⟨_, .tail _ (.head _), ?_⟩
        show ix2 p q ∈ (Rect.unit (s := S528x512) ![8, 0] S512x512.size inb_S528x512_S512x512_8_0).set
        rw [Rect.mem_set_unit]
        intro a
        match a with
        | ⟨0, _⟩ => show 8 ≤ p.val ∧ p.val < 8 + 512; omega
        | ⟨1, _⟩ => show 0 ≤ q.val ∧ q.val < 0 + 512; omega
      · refine ⟨_, .head _, ?_⟩
        show ix2 p q ∈ (Rect.unit (s := S528x512) ![520, 0] S8x512.size inb_S528x512_S8x512_520_0).set
        rw [Rect.mem_set_unit]
        intro a
        match a with
        | ⟨0, _⟩ => show 520 ≤ p.val ∧ p.val < 520 + 8; omega
        | ⟨1, _⟩ => show 0 ≤ q.val ∧ q.val < 0 + 512; omega

/-- The convolution at position `S` of sequence `b`, with its bias. -/
def conv (c : Dev nD) (b S : Nat) (Q : Fin 4096) : EReal :=
  Z m c b (S + 6) Q * W m c (ix3 0 0 Q) + Z m c b (S + 7) Q * W m c (ix3 0 1 Q) + Z m c b (S + 8) Q * W m c (ix3 0 2 Q)
    + Z m c b (S + 9) Q * W m c (ix3 0 3 Q) + Z m c b (S + 10) Q * W m c (ix3 0 4 Q) + B m c (ix2 0 Q)

/-- The kernel's element: whatever the five shifted loads, the weights, the bias and the scale are, when they hold the column
    between zeros and the column's weights. -/
theorem point (c : Dev nD) (b S : Nat) (Q : Fin 4096) (r q : Fin 512)
    (e0 e1 e2 e3 e4 : Vec Ideal S512x512 .f32) (w0 w1 w2 w3 w4 β s : Vec Ideal S1x512 .f32)
    (h0 : e0 (ix2 r q) = Z m c b (S + 6) Q) (h1 : e1 (ix2 r q) = Z m c b (S + 7) Q)
    (h2 : e2 (ix2 r q) = Z m c b (S + 8) Q) (h3 : e3 (ix2 r q) = Z m c b (S + 9) Q)
    (h4 : e4 (ix2 r q) = Z m c b (S + 10) Q)
    (hw0 : w0 (ix2 0 q) = W m c (ix3 0 0 Q)) (hw1 : w1 (ix2 0 q) = W m c (ix3 0 1 Q))
    (hw2 : w2 (ix2 0 q) = W m c (ix3 0 2 Q)) (hw3 : w3 (ix2 0 q) = W m c (ix3 0 3 Q))
    (hw4 : w4 (ix2 0 q) = W m c (ix3 0 4 Q)) (hb : β (ix2 0 q) = B m c (ix2 0 Q))
    (hs : s (ix2 0 q) = if Q.val < 2048 then (1 : EReal) else Ideal.ofBits .f32 0x3D800000#32) :
    k0_pay1 (F := Ideal) (k0_pay6 (k0_pay5 e0 w0) e1 w1 e2 w2 e3 w3 e4 w4 β) (k0_pay7 s) (ix3 0 r q)
      = conv m c b S Q * Ideal.div 1 (1 + Ideal.exp (-conv m c b S Q))
        * (if Q.val < 2048 then (1 : EReal) else Ideal.ofBits .f32 0x3D800000#32) := by
  unfold k0_pay1 k0_pay6 k0_pay5 k0_pay7
  pointwise
  rw [h0, h1, h2, h3, h4, hw0, hw1, hw2, hw3, hw4, hb, hs]
  refine congrArg₂ (· * ·) (congrArg₂ (· * ·) rfl ?_) rfl
  exact half_tanh _

/-- The reference's convolution after its silu. -/
abbrev U (c : Dev nD) := Cert.ReferenceConvIdeal.Read.val_main_v43 (F := Ideal) (X m c) (W m c) (B m c)

set_option maxHeartbeats 2000000 in
/-- Its element. -/
theorem ref_silu (c : Dev nD) (b : Fin 2) (S : Fin 8192) (Q : Fin 4096) :
    U m c (ix3 b S Q) = conv m c b.val S.val Q * Ideal.div 1 (1 + Ideal.exp (-conv m c b.val S.val Q)) := by
  unfold U
  pointwise [Cert.ReferenceConvIdeal.Read.val_main_v43,
    Cert.ReferenceConvIdeal.Read.val_main_call1_v5,
    Cert.ReferenceConvIdeal.Read.val_main_call1_v4,
    Cert.ReferenceConvIdeal.Read.val_main_call1_cst_0,
    Cert.ReferenceConvIdeal.Read.val_main_call1_v3,
    Cert.ReferenceConvIdeal.Read.val_main_call1_v2,
    Cert.ReferenceConvIdeal.Read.val_main_call1_cst,
    Cert.ReferenceConvIdeal.Read.val_main_call1_v1,
    Cert.ReferenceConvIdeal.Read.val_main_call1_v0,
    Cert.ReferenceConvIdeal.Read.val_main_v42,
    Cert.ReferenceConvIdeal.Read.val_main_v41,
    Cert.ReferenceConvIdeal.Read.val_main_v40,
    Cert.ReferenceConvIdeal.Read.val_main_v39,
    Cert.ReferenceConvIdeal.Read.val_main_v38,
    Cert.ReferenceConvIdeal.Read.val_main_v37,
    Cert.ReferenceConvIdeal.Read.val_main_v36,
    Cert.ReferenceConvIdeal.Read.val_main_v35,
    Cert.ReferenceConvIdeal.Read.val_main_v34,
    Cert.ReferenceConvIdeal.Read.val_main_v33,
    Cert.ReferenceConvIdeal.Read.val_main_v32,
    Cert.ReferenceConvIdeal.Read.val_main_v31,
    Cert.ReferenceConvIdeal.Read.val_main_v30,
    Cert.ReferenceConvIdeal.Read.val_main_v29,
    Cert.ReferenceConvIdeal.Read.val_main_v28,
    Cert.ReferenceConvIdeal.Read.val_main_v27,
    Cert.ReferenceConvIdeal.Read.val_main_v26,
    Cert.ReferenceConvIdeal.Read.val_main_v25,
    Cert.ReferenceConvIdeal.Read.val_main_v24,
    Cert.ReferenceConvIdeal.Read.val_main_v23,
    Cert.ReferenceConvIdeal.Read.val_main_v22,
    Cert.ReferenceConvIdeal.Read.val_main_v21,
    Cert.ReferenceConvIdeal.Read.val_main_v20,
    Cert.ReferenceConvIdeal.Read.val_main_v19,
    Cert.ReferenceConvIdeal.Read.val_main_v18,
    Cert.ReferenceConvIdeal.Read.val_main_v17,
    Cert.ReferenceConvIdeal.Read.val_main_v16,
    Cert.ReferenceConvIdeal.Read.val_main_v15,
    Cert.ReferenceConvIdeal.Read.val_main_v14,
    Cert.ReferenceConvIdeal.Read.val_main_v13,
    Cert.ReferenceConvIdeal.Read.val_main_v12,
    Cert.ReferenceConvIdeal.Read.val_main_v11,
    Cert.ReferenceConvIdeal.Read.val_main_v10,
    Cert.ReferenceConvIdeal.Read.val_main_v9,
    Cert.ReferenceConvIdeal.Read.val_main_cst,
    Cert.ReferenceConvIdeal.Read.val_main_v8,
    Cert.ReferenceConvIdeal.Read.val_main_v7,
    Cert.ReferenceConvIdeal.Read.val_main_v6,
    Cert.ReferenceConvIdeal.Read.val_main_v5,
    Cert.ReferenceConvIdeal.Read.val_main_v4,
    Cert.ReferenceConvIdeal.Read.val_main_v3,
    Cert.ReferenceConvIdeal.Read.val_main_v2,
    Cert.ReferenceConvIdeal.Read.val_main_call0_v0,
    Cert.ReferenceConvIdeal.Read.val_main_c,
    Cert.ReferenceConvIdeal.Read.val_main_v1,
    Cert.ReferenceConvIdeal.Read.val_main_v0]
  have hS : S.val < 8192 := S.isLt
  have z2 : Z m c b.val (S.val + 8) Q = X m c (ix2 ⟨b.val * 8192 + S.val, by omega⟩ Q) := by
    unfold Z
    rw [dif_pos ⟨by omega, by omega, b.isLt⟩]
    congr 2
  unfold conv
  rw [z2, Z_pad m c b _ S.val rfl, Z_pad m c b _ (1 + S.val) (by omega),
      Z_pad m c b _ (3 + S.val) (by omega), Z_pad m c b _ (4 + S.val) (by omega)]

/-- The reference's element: the keys are scaled, the queries are not. -/
theorem ref_point (c : Dev nD) (b : Fin 2) (S : Fin 8192) (Q : Fin 4096) :
    G m c (ix3 b S Q) = conv m c b.val S.val Q * Ideal.div 1 (1 + Ideal.exp (-conv m c b.val S.val Q))
        * (if Q.val < 2048 then (1 : EReal) else Ideal.ofBits .f32 0x3D800000#32) := by
  rw [← ref_silu m c b S Q]
  unfold G
  pointwise [Cert.ReferenceConvIdeal.Read.val_main_v49, Cert.ReferenceConvIdeal.Read.val_main_v48, Cert.ReferenceConvIdeal.Read.val_main_v47, Cert.ReferenceConvIdeal.Read.val_main_v46, Cert.ReferenceConvIdeal.Read.val_main_cst_0, Cert.ReferenceConvIdeal.Read.val_main_v45, Cert.ReferenceConvIdeal.Read.val_main_v44]
  by_cases hQ : Q.val < 2048
  · rw [if_pos hQ, mul_one]
    exact dif_pos hQ
  · rw [if_neg hQ]
    refine (dif_neg hQ).trans (congrArg (fun q => U m c (ix3 b S q) * Ideal.ofBits .f32 0x3D800000#32) ?_)
    apply Fin.ext
    show 2048 + (Q.val - 2048) = Q.val
    omega

set_option maxHeartbeats 2000000 in
/-- What a point writes back is its block of the reference's value. -/
theorem flushed_eq (c : Dev nD) (t : Fin cfg0.N) :
    (dats m 0 c).flushed 6 t = ((cfg0.win 6).blk t).view.read (Elt Ideal) (G m c) := by
  have ht : t.val < 256 := lt_of_lt_of_eq t.isLt N_0
  rw [Value.flushed6_A]
  frame_out
  funext j
  rw [View.read_apply]
  show k0_pay1 (F := Ideal) _ _ j = G m c _
  idx_vars j
  have e : (((cfg0.win 6).blk t).view.emb (ix3 j0 j1 j2) : S2x8192x4096.Idx)
      = ix3 ⟨t.val / 128, by omega⟩ ⟨t.val / 8 % 16 * 512 + j1.val, by omega⟩ ⟨t.val % 8 * 512 + j2.val, by omega⟩ := by
    funext a
    apply Fin.ext
    match a with
    | ⟨0, _⟩ => show win0_6.index t 0 * 1 + 1 * j0.val = _; rw [(idx t).2.2.2.2.2.2.2.2.2.2.2.2.2.2.2.1]; simp
    | ⟨1, _⟩ => show win0_6.index t 1 * 512 + 1 * j1.val = _; rw [(idx t).2.2.2.2.2.2.2.2.2.2.2.2.2.2.2.2.1]; simp only [one_mul]; rfl
    | ⟨2, _⟩ => show win0_6.index t 2 * 512 + 1 * j2.val = _; rw [(idx t).2.2.2.2.2.2.2.2.2.2.2.2.2.2.2.2.2.1]; simp
  rw [show ((View.whole main_v8).slice ((win0 6).rect t)).emb (ix3 j0 j1 j2) = _ from e]
  have hj0 : j0 = 0 := Subsingleton.elim _ _
  subst hj0
  simp only [View.readCov_eq_canon']
  have row : ∀ (k : Nat) (hk : 6 ≤ k) (hk' : k ≤ 10) (i0 : ∀ a, (![k, 0] : Fin 2 → Nat) a + S512x512.size a ≤ S528x512.size a),
      View.canon (Val := Elt Ideal) (e := .f32)
        [⟨Rect.unit (s := S528x512) ![520, 0] S8x512.size inb_S528x512_S8x512_520_0, k0_pay4 (grid0.coords t) (iblk m c 2 t)⟩,
          ⟨Rect.unit (s := S528x512) ![8, 0] S512x512.size inb_S528x512_S512x512_8_0, k0_pay3 (iblk m c 1 t)⟩,
          ⟨Rect.unit (s := S528x512) ![0, 0] S8x512.size inb_S528x512_S8x512_0_0, k0_pay2 (grid0.coords t) (iblk m c 0 t)⟩]
        ((Rect.unit (s := S528x512) ![k, 0] S512x512.size i0).toLoadRect.idx (ix2 j1 j2))
      = Z m c (t.val / 128) (t.val / 8 % 16 * 512 + j1.val + k) ⟨t.val % 8 * 512 + j2.val, by omega⟩ := by
    intro k hk hk' i0
    have hj1 := j1.isLt
    have ei : (Rect.unit (s := S528x512) ![k, 0] S512x512.size i0).toLoadRect.idx (ix2 j1 j2)
        = ix2 (⟨k + j1.val, by omega⟩ : Fin 528) j2 := by
      funext a
      apply Fin.ext
      match a with
      | ⟨0, _⟩ => show k + 1 * j1.val = k + j1.val; omega
      | ⟨1, _⟩ => show 0 + 1 * j2.val = j2.val; omega
    rw [ei, scratch m c t]
    show Z m c _ (_ + (k + j1.val)) _ = _
    rw [show t.val / 8 % 16 * 512 + (k + j1.val) = t.val / 8 % 16 * 512 + j1.val + k by omega]
  have tap : ∀ (k : Nat) (hk : k < 5) (i0 : ∀ a, (![k, 0] : Fin 2 → Nat) a + S1x512.size a ≤ S5x512.size a),
      View.ld (iblk m c 3 t) (Rect.unit (s := S5x512) ![k, 0] S1x512.size i0) (ix2 0 j2)
      = W m c (ix3 0 ⟨k, hk⟩ ⟨t.val % 8 * 512 + j2.val, by omega⟩) := by
    intro k hk i0
    have ei : (Rect.unit (s := S5x512) ![k, 0] S1x512.size i0).idx (ix2 0 j2) = ix2 ⟨k, hk⟩ j2 := by
      funext a
      apply Fin.ext
      match a with
      | ⟨0, _⟩ => show k + 1 * 0 = k; omega
      | ⟨1, _⟩ => show 0 + 1 * j2.val = j2.val; omega
    show iblk m c 3 t (_ : S5x512.Idx) = _
    rw [ei, w_block m c t]
  refine (point m c (t.val / 128) (t.val / 8 % 16 * 512 + j1.val) ⟨t.val % 8 * 512 + j2.val, by omega⟩ j1 j2 _ _ _ _ _ _ _ _ _ _ _ _ (row 6 (by omega) (by omega) _) (row 7 (by omega) (by omega) _)
    (row 8 (by omega) (by omega) _) (row 9 (by omega) (by omega) _) (row 10 (by omega) (by omega) _)
    (tap 0 (by omega) _) (tap 1 (by omega) _) (tap 2 (by omega) _) (tap 3 (by omega) _) (tap 4 (by omega) _)
    (b_block m c t j2) ?_).trans (ref_point m c ⟨t.val / 128, by omega⟩ ⟨t.val / 8 % 16 * 512 + j1.val, by omega⟩ ⟨t.val % 8 * 512 + j2.val, by omega⟩).symm
  rw [s_block m c t j2]
  have hj2 := j2.isLt
  by_cases h : t.val % 8 < 4
  · rw [if_pos h, if_pos (by show t.val % 8 * 512 + j2.val < 2048; omega)]
  · rw [if_neg h, if_neg (by show ¬ t.val % 8 * 512 + j2.val < 2048; omega)]
    rfl

/-- Every index of the result lies in some point's block. -/
theorem cover (i : S2x8192x4096.Idx) : ∃ t : Fin cfg0.N, (cfg0.win 6).flush t = true ∧ i ∈ ((cfg0.win 6).blk t).view.set := by
  have h0 : (i 0).val < 2 := (i 0).isLt
  have h1 : (i 1).val < 8192 := (i 1).isLt
  have h2 : (i 2).val < 4096 := (i 2).isLt
  let t : Fin cfg0.N := ⟨((i 0).val * 16 + (i 1).val / 512) * 8 + (i 2).val / 512, by show _ < grid0.N; rw [N_0]; omega⟩
  refine ⟨t, flush0_6 t, ?_⟩
  show i ∈ ((View.whole main_v8).slice (win0_6.rect t)).set
  rw [View.set_slice_whole, Rect.mem_set_unit]
  have e0 : win0_6.index t 0 = (i 0).val := by rw [(idx t).2.2.2.2.2.2.2.2.2.2.2.2.2.2.2.1]; show (((i 0).val * 16 + (i 1).val / 512) * 8 + (i 2).val / 512) / 128 = _; omega
  have e1 : win0_6.index t 1 = (i 1).val / 512 := by rw [(idx t).2.2.2.2.2.2.2.2.2.2.2.2.2.2.2.2.1]; show (((i 0).val * 16 + (i 1).val / 512) * 8 + (i 2).val / 512) / 8 % 16 = _; omega
  have e2 : win0_6.index t 2 = (i 2).val / 512 := by rw [(idx t).2.2.2.2.2.2.2.2.2.2.2.2.2.2.2.2.2.1]; show (((i 0).val * 16 + (i 1).val / 512) * 8 + (i 2).val / 512) % 8 = _; omega
  intro a
  match a with
  | ⟨0, _⟩ => show win0_6.index t 0 * 1 ≤ (i 0).val ∧ (i 0).val < win0_6.index t 0 * 1 + 1; omega
  | ⟨1, _⟩ => show win0_6.index t 1 * 512 ≤ (i 1).val ∧ (i 1).val < win0_6.index t 1 * 512 + 512; omega
  | ⟨2, _⟩ => show win0_6.index t 2 * 512 ≤ (i 2).val ∧ (i 2).val < win0_6.index t 2 * 512 + 512; omega

/-- So the result array ends at the reference's value, -/
theorem final (c : Dev nD) : (dats m 0 c).arrAt 6 cfg0.N = G m c :=
  (dats m 0 c).arrAt_eq_of_cover 6 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.KernelConvIdeal.RefValue

end
-- ==== Proof.Values.AttnV0.lean ====
/-
  The values of the attention's first group: the band of the input projection that starts at column 6144.
-/
module

public import proofs.«01_k».proof.Proof.Gen.KernelAttnV0Ideal.Value
public import proofs.«01_k».proof.Proof.Gen.ReferenceAttnV0Ideal.Run
public import proofs.«01_k».proof.Proof.Gen.ReferenceAttnV0Ideal.Read
public import proofs.«01_k».proof.Proof.Values.Common
public import Idealize.ShloMosaic.Lib.Pipeline.Value
public import Idealize.ShloMosaic.Lib.Pipeline.ValueKit
public import Idealize.ShloMosaic.Lib.Pointwise

@[expose] public section

set_option maxRecDepth 16384

noncomputable section

namespace Cert.KernelAttnV0Ideal.RefValue

open Layer Cert.KernelAttnV0Ideal Cert.KernelAttnV0Ideal.Gen Idealize.ShloMosaic Idealize.ShloMosaic.TcCoe Idealize.SL.Sem
open Idealize.ShloMosaic.Pipeline (Dat)

variable (m : (ℓ : Loc nD τ sig) → Buf (Elt Ideal) ℓ)

/-- The activations. -/
abbrev H (c : Dev nD) : FVec Ideal S16384x4096 .bf16 := m ((c : Thread nD τ).loc main_arg0)
/-- The input projection. -/
abbrev W (c : Dev nD) : FVec Ideal S1x4096x25632 .f32 := m ((c : Thread nD τ).loc main_arg1)

/-- The values the reference computes of the same arguments. -/
abbrev G (c : Dev nD) : FVec Ideal S2x1x8192x1024 .bf16 :=
  Cert.ReferenceAttnV0Ideal.Read.val_main_v7 (F := Ideal) (H m c) (W m c)

/-- The array the second window reads: the projection, transposed. -/
theorem V_main_v2 (c : Dev nD) : V m c main_v2
    = truncf .bf16 (transpose S25632x4096 [1, 0] (shapeCast S4096x25632 (W m c) shapeCasts_S1x4096x25632_S4096x25632) transposes_S4096x25632_S25632x4096_1_0) bitsLt_bf16_f32 := by
  show StableHlo.after hostOps0 (fun b => m (c, b)) (Proc.devRef .tc main_v2) = _
  after_results
  rfl

/-- The block each window is at: rows of the activations, one block of rows of the transposed projection, and rows of the
    result by sequence. -/
theorem idx : ∀ t : Fin cfg0.N, win0_0.index t 0 = t.val ∧ win0_0.index t 1 = 0
    ∧ win0_1.index t 0 = 6 ∧ win0_1.index t 1 = 0
    ∧ win0_2.index t 0 = t.val / 8 ∧ win0_2.index t 1 = 0 ∧ win0_2.index t 2 = t.val % 8 ∧ win0_2.index t 3 = 0 :=
  (by decide +kernel : ∀ t : Fin grid0.N, win0_0.index t 0 = t.val ∧ win0_0.index t 1 = 0
    ∧ win0_1.index t 0 = 6 ∧ win0_1.index t 1 = 0
    ∧ win0_2.index t 0 = t.val / 8 ∧ win0_2.index t 1 = 0 ∧ win0_2.index t 2 = t.val % 8 ∧ win0_2.index t 3 = 0)

/-- A block of activations at an index. -/
theorem lhs_block (c : Dev nD) (t : Fin cfg0.N) (r : Fin 1024) (k : Fin 4096) (hr : t.val * 1024 + r.val < 16384) :
    iblk m c 0 t (ix2 r k) = H m c (ix2 ⟨t.val * 1024 + r.val, hr⟩ k) := by
  unfold iblk
  rw [View.read_apply]
  show V m c main_arg0 _ = _
  rw [V_main_arg0]
  show H m c _ = _
  congr 1
  funext a
  apply Fin.ext
  match a with
  | ⟨0, _⟩ => show win0_0.index t 0 * 1024 + 1 * r.val = _; rw [(idx t).1]; simp
  | ⟨1, _⟩ => show win0_0.index t 1 * 4096 + 1 * k.val = _; rw [(idx t).2.1]; simp

/-- The block of the transposed projection at an index. -/
theorem rhs_block (c : Dev nD) (t : Fin cfg0.N) (q : Fin 1024) (k : Fin 4096) :
    X0_1 m c t (ix2 q k) = W m c (ix3 0 k ⟨6144 + q.val, by omega⟩) := by
  unfold X0_1 Pipeline.Window.fill
  rw [dif_pos (moved0_1 t (ix2 q k))]
  unfold iblk
  rw [View.read_apply]
  show V m c main_v2 _ = _
  refine (congrArg (V m c main_v2) (?_ : _ = (ix2 (⟨6144 + q.val, by omega⟩ : Fin 25632) k : S25632x4096.Idx))).trans ?_
  · funext a
    apply Fin.ext
    match a with
    | ⟨0, _⟩ => show win0_1.index t 0 * 1024 + 1 * q.val = _; rw [(idx t).2.2.1]; simp
    | ⟨1, _⟩ => show win0_1.index t 1 * 4096 + 1 * k.val = _; rw [(idx t).2.2.2.1]; simp
  rw [V_main_v2]
  generalize W m c = w
  pointwise

/-- What a point writes back is its block of the reference's value. -/
theorem flushed_eq (c : Dev nD) (t : Fin cfg0.N) :
    (dats m 0 c).flushed 2 t = ((cfg0.win 2).blk t).view.read (Elt Ideal) (G m c) := by
  rw [Value.flushed2_A]
  frame_out
  funext j
  rw [View.read_apply]
  show k0_pay1 (F := Ideal) (iblk m c 0 t) (X0_1 m c t) j = G m c _
  idx_vars j
  have ht : t.val < 16 := lt_of_lt_of_eq t.isLt N_0
  have hr : t.val * 1024 + j2.val < 16384 := by omega
  have e : (((cfg0.win 2).blk t).view.emb (ix4 j0 j1 j2 j3) : S2x1x8192x1024.Idx)
      = ix4 ⟨t.val / 8, by omega⟩ 0 ⟨t.val % 8 * 1024 + j2.val, by omega⟩ j3 := by
    funext a
    apply Fin.ext
    match a with
    | ⟨0, _⟩ => show win0_2.index t 0 * 1 + 1 * j0.val = _; rw [(idx t).2.2.2.2.1]; simp
    | ⟨1, _⟩ => show win0_2.index t 1 * 1 + 1 * j1.val = _; rw [(idx t).2.2.2.2.2.1]; simp
    | ⟨2, _⟩ => show win0_2.index t 2 * 1024 + 1 * j2.val = _; rw [(idx t).2.2.2.2.2.2.1]; simp
    | ⟨3, _⟩ => show win0_2.index t 3 * 1024 + 1 * j3.val = _; rw [(idx t).2.2.2.2.2.2.2]; simp
  rw [e]
  unfold k0_pay1 G
  pointwise [Cert.ReferenceAttnV0Ideal.Read.val_main_v7, Cert.ReferenceAttnV0Ideal.Read.val_main_v6, Cert.ReferenceAttnV0Ideal.Read.val_main_v5, Cert.ReferenceAttnV0Ideal.Read.val_main_v4, Cert.ReferenceAttnV0Ideal.Read.val_main_v3, Cert.ReferenceAttnV0Ideal.Read.val_main_v2, Cert.ReferenceAttnV0Ideal.Read.val_main_v1, Cert.ReferenceAttnV0Ideal.Read.val_main_v0]
  simp only [lhs_block m c t _ _ hr, rhs_block m c t _ _]
  have er : t.val * 1024 + j2.val = t.val / 8 * 8192 + (t.val % 8 * 1024 + j2.val) := by omega
  simp only [er]

/-- Every index of the result lies in some point's block. -/
theorem cover (i : S2x1x8192x1024.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 8192 := (i 2).isLt
  have h3 : (i 3).val < 1024 := (i 3).isLt
  let t : Fin cfg0.N := ⟨(i 0).val * 8 + (i 2).val / 1024, by show _ < grid0.N; rw [N_0]; omega⟩
  have tv : t.val = (i 0).val * 8 + (i 2).val / 1024 := rfl
  refine ⟨t, flush0_2 t, ?_⟩
  show i ∈ ((View.whole main_v3).slice (win0_2.rect t)).set
  rw [View.set_slice_whole, Rect.mem_set_unit]
  obtain ⟨-, -, -, -, e0, e1, e2, e3⟩ := idx t
  rw [tv] at e0 e2
  intro a
  match a with
  | ⟨0, _⟩ => show win0_2.index t 0 * 1 ≤ (i 0).val ∧ (i 0).val < win0_2.index t 0 * 1 + 1; omega
  | ⟨1, _⟩ => show win0_2.index t 1 * 1 ≤ (i 1).val ∧ (i 1).val < win0_2.index t 1 * 1 + 1; omega
  | ⟨2, _⟩ => show win0_2.index t 2 * 1024 ≤ (i 2).val ∧ (i 2).val < win0_2.index t 2 * 1024 + 1024; omega
  | ⟨3, _⟩ => show win0_2.index t 3 * 1024 ≤ (i 3).val ∧ (i 3).val < win0_2.index t 3 * 1024 + 1024; omega

/-- So the result array ends at the reference's value, -/
theorem final (c : Dev nD) : (dats m 0 c).arrAt 2 cfg0.N = G m c :=
  (dats m 0 c).arrAt_eq_of_cover 2 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelAttnV0Ideal.RefValue

end
-- ==== Proof.Values.Dilated.lean ====
/-
  The strided gather of the attention's later groups: a block of 1024 rows and 1024 columns is stored as eight planes of 128
  columns, and each plane is read again with a stride over its rows, so that the result has the rows of one residue
  together. Read at an index, the planes hold the block, and the strided pieces are the block's rows regrouped.
-/
module

public import Idealize.ShloMosaic.Lib.Pipeline.Value
public import Idealize.ShloMosaic.Lib.Pipeline.ValueKit
public import Idealize.ShloMosaic.Lib.Pointwise

@[expose] public section

set_option maxRecDepth 16384

noncomputable section

namespace Layer

open Idealize.ShloMosaic

/-- A block of 1024 rows and 1024 columns as eight planes of 128 columns. -/
def planes (A : FVec Ideal ⟨2, ![1024, 1024]⟩ .f32) (y : (⟨3, ![8, 1024, 128]⟩ : Shape).Idx) : Elt Ideal .f32 :=
  A (ix2 (⟨(y 1).val, (y 1).isLt⟩ : Fin 1024)
    (⟨(y 0).val * 128 + (y 2).val, by
      have h0 : (y 0).val < 8 := (y 0).isLt
      have h2 : (y 2).val < 128 := (y 2).isLt
      omega⟩ : Fin 1024))

/-- A store of one plane agrees with the planes of the block. -/
theorem plane_store (A : FVec Ideal ⟨2, ![1024, 1024]⟩ .f32) (P : FVec Ideal ⟨3, ![1, 1024, 128]⟩ .f32) (k : Nat) (hk : k < 8)
    (hP : ∀ (r : Fin 1024) (l : Fin 128), P (ix3 0 r l) = A (ix2 r ⟨k * 128 + l.val, by omega⟩))
    (i : ∀ a, (![k, 0, 0] : Fin 3 → Nat) a + (![1, 1024, 128] : Fin 3 → Nat) a ≤ (⟨3, ![8, 1024, 128]⟩ : Shape).size a)
    (x : (Rect.unit (s := ⟨3, ![8, 1024, 128]⟩) ![k, 0, 0] ![1, 1024, 128] i).shape.Idx) :
    P x = planes A ((Rect.unit (s := ⟨3, ![8, 1024, 128]⟩) ![k, 0, 0] ![1, 1024, 128] i).emb x) := by
  change (⟨3, ![1, 1024, 128]⟩ : Shape).Idx at x
  idx_vars x
  have h0 : x0 = 0 := by omega
  subst h0
  rw [hP]
  unfold planes
  congr 1
  funext a
  apply Fin.ext
  match a with
  | ⟨0, _⟩ => show x1.val = 0 + 1 * x1.val; omega
  | ⟨1, _⟩ => show k * 128 + x2.val = (k + 1 * 0) * 128 + (0 + 1 * x2.val); omega

/-- A strided piece of the planes, four rows apart, is the block's rows of one residue. -/
def quarters (A : FVec Ideal ⟨2, ![1024, 1024]⟩ .f32) (y : (⟨4, ![1, 4, 256, 1024]⟩ : Shape).Idx) : Elt Ideal .bf16 :=
  A (ix2 (⟨(y 2).val * 4 + (y 1).val, by
      have h1 : (y 1).val < 4 := (y 1).isLt
      have h2 : (y 2).val < 256 := (y 2).isLt
      omega⟩ : Fin 1024) (⟨(y 3).val, (y 3).isLt⟩ : Fin 1024))

/-- A store of one strided piece, four rows apart. -/
theorem quarter_store (A : FVec Ideal ⟨2, ![1024, 1024]⟩ .f32) (F : FVec Ideal ⟨3, ![8, 1024, 128]⟩ .f32) (hF : ∀ y, F y = planes A y)
    (k r q : Nat) (hk : k < 8) (hr : r < 4) (hq : q = k * 128)
    (i0 : ∀ (a : Fin 3), (![1, 256, 128] : Fin 3 → Nat) a = 0 ∨ (![k, r, 0] : Fin 3 → Nat) a + (![1, 4, 1] : Fin 3 → Nat) a * ((![1, 256, 128] : Fin 3 → Nat) a - 1) < (⟨3, ![8, 1024, 128]⟩ : Shape).size a)
    (i1 : ∀ a, (![0, r, 0, q] : Fin 4 → Nat) a + (![1, 1, 256, 128] : Fin 4 → Nat) a ≤ (⟨4, ![1, 4, 256, 1024]⟩ : Shape).size a)
    (s1 : (⟨3, ![1, 256, 128]⟩ : Shape).ShapeCasts ⟨2, ![256, 128]⟩) (s2 : (⟨2, ![256, 128]⟩ : Shape).ShapeCasts ⟨4, ![1, 1, 256, 128]⟩) (s3 : FTy.bf16.bits < FTy.f32.bits)
    (x : (Rect.unit (s := ⟨4, ![1, 4, 256, 1024]⟩) ![0, r, 0, q] ![1, 1, 256, 128] i1).shape.Idx) :
    (shapeCast ⟨4, ![1, 1, 256, 128]⟩ (truncf .bf16 (shapeCast ⟨2, ![256, 128]⟩ (fun j => F (({off := ![k, r, 0], size := ![1, 256, 128], stride := ![1, 4, 1], inb := i0} : LoadRect ⟨3, ![8, 1024, 128]⟩).idx j) : FVec Ideal ⟨3, ![1, 256, 128]⟩ .f32) s1) s3) s2 : FVec Ideal ⟨4, ![1, 1, 256, 128]⟩ .bf16) x
      = quarters A ((Rect.unit (s := ⟨4, ![1, 4, 256, 1024]⟩) ![0, r, 0, q] ![1, 1, 256, 128] i1).emb x) := by
  subst hq
  change (⟨4, ![1, 1, 256, 128]⟩ : Shape).Idx at x
  idx_vars x
  have h0 : x0 = 0 := by omega
  have h1 : x1 = 0 := by omega
  subst h0 h1
  pointwise
  rw [hF]
  unfold planes quarters
  congr 1
  funext a
  apply Fin.ext
  match a with
  | ⟨0, _⟩ => show r + 4 * x2.val = (0 + 1 * x2.val) * 4 + (r + 1 * 0); omega
  | ⟨1, _⟩ => show k * 128 + x3.val = k * 128 + 1 * x3.val; omega

/-- A strided piece of the planes, sixteen rows apart, is the block's rows of one residue. -/
def sixteenths (A : FVec Ideal ⟨2, ![1024, 1024]⟩ .f32) (y : (⟨4, ![1, 16, 64, 1024]⟩ : Shape).Idx) : Elt Ideal .bf16 :=
  A (ix2 (⟨(y 2).val * 16 + (y 1).val, by
      have h1 : (y 1).val < 16 := (y 1).isLt
      have h2 : (y 2).val < 64 := (y 2).isLt
      omega⟩ : Fin 1024) (⟨(y 3).val, (y 3).isLt⟩ : Fin 1024))

/-- A store of one strided piece, sixteen rows apart. -/
theorem sixteenth_store (A : FVec Ideal ⟨2, ![1024, 1024]⟩ .f32) (F : FVec Ideal ⟨3, ![8, 1024, 128]⟩ .f32) (hF : ∀ y, F y = planes A y)
    (k r q : Nat) (hk : k < 8) (hr : r < 16) (hq : q = k * 128)
    (i0 : ∀ (a : Fin 3), (![1, 64, 128] : Fin 3 → Nat) a = 0 ∨ (![k, r, 0] : Fin 3 → Nat) a + (![1, 16, 1] : Fin 3 → Nat) a * ((![1, 64, 128] : Fin 3 → Nat) a - 1) < (⟨3, ![8, 1024, 128]⟩ : Shape).size a)
    (i1 : ∀ a, (![0, r, 0, q] : Fin 4 → Nat) a + (![1, 1, 64, 128] : Fin 4 → Nat) a ≤ (⟨4, ![1, 16, 64, 1024]⟩ : Shape).size a)
    (s1 : (⟨3, ![1, 64, 128]⟩ : Shape).ShapeCasts ⟨2, ![64, 128]⟩) (s2 : (⟨2, ![64, 128]⟩ : Shape).ShapeCasts ⟨4, ![1, 1, 64, 128]⟩) (s3 : FTy.bf16.bits < FTy.f32.bits)
    (x : (Rect.unit (s := ⟨4, ![1, 16, 64, 1024]⟩) ![0, r, 0, q] ![1, 1, 64, 128] i1).shape.Idx) :
    (shapeCast ⟨4, ![1, 1, 64, 128]⟩ (truncf .bf16 (shapeCast ⟨2, ![64, 128]⟩ (fun j => F (({off := ![k, r, 0], size := ![1, 64, 128], stride := ![1, 16, 1], inb := i0} : LoadRect ⟨3, ![8, 1024, 128]⟩).idx j) : FVec Ideal ⟨3, ![1, 64, 128]⟩ .f32) s1) s3) s2 : FVec Ideal ⟨4, ![1, 1, 64, 128]⟩ .bf16) x
      = sixteenths A ((Rect.unit (s := ⟨4, ![1, 16, 64, 1024]⟩) ![0, r, 0, q] ![1, 1, 64, 128] i1).emb x) := by
  subst hq
  change (⟨4, ![1, 1, 64, 128]⟩ : Shape).Idx at x
  idx_vars x
  have h0 : x0 = 0 := by omega
  have h1 : x1 = 0 := by omega
  subst h0 h1
  pointwise
  rw [hF]
  unfold planes sixteenths
  congr 1
  funext a
  apply Fin.ext
  match a with
  | ⟨0, _⟩ => show r + 16 * x2.val = (0 + 1 * x2.val) * 16 + (r + 1 * 0); omega
  | ⟨1, _⟩ => show k * 128 + x3.val = k * 128 + 1 * x3.val; omega

end Layer

end
-- ==== Proof.Values.AttnV1.lean ====
/-
  The values of the attention's second group: the band of the input projection that starts at column 7168.
-/
module

public import proofs.«01_k».proof.Proof.Gen.KernelAttnV1Ideal.Value
public import proofs.«01_k».proof.Proof.Gen.ReferenceAttnV1Ideal.Run
public import proofs.«01_k».proof.Proof.Gen.ReferenceAttnV1Ideal.Read
public import proofs.«01_k».proof.Proof.Values.Dilated
public import Idealize.ShloMosaic.Lib.Pipeline.Value
public import Idealize.ShloMosaic.Lib.Pipeline.ValueKit
public import Idealize.ShloMosaic.Lib.Pointwise

@[expose] public section

set_option maxRecDepth 16384

noncomputable section

namespace Cert.KernelAttnV1Ideal.RefValue

open Layer Cert.KernelAttnV1Ideal Cert.KernelAttnV1Ideal.Gen Idealize.ShloMosaic Idealize.ShloMosaic.TcCoe Idealize.SL.Sem
open Idealize.ShloMosaic.Pipeline (Dat)

variable (m : (ℓ : Loc nD τ sig) → Buf (Elt Ideal) ℓ)

/-- The activations. -/
abbrev H (c : Dev nD) : FVec Ideal S16384x4096 .bf16 := m ((c : Thread nD τ).loc main_arg0)
/-- The input projection. -/
abbrev W (c : Dev nD) : FVec Ideal S1x4096x25632 .f32 := m ((c : Thread nD τ).loc main_arg1)

/-- The values the reference computes of the same arguments. -/
abbrev G (c : Dev nD) : FVec Ideal S2x4x2048x1024 .bf16 :=
  Cert.ReferenceAttnV1Ideal.Read.val_main_v7 (F := Ideal) (H m c) (W m c)

/-- The array the second window reads: the projection, transposed. -/
theorem V_main_v2 (c : Dev nD) : V m c main_v2
    = truncf .bf16 (transpose S25632x4096 [1, 0] (shapeCast S4096x25632 (W m c) shapeCasts_S1x4096x25632_S4096x25632) transposes_S4096x25632_S25632x4096_1_0) bitsLt_bf16_f32 := by
  show StableHlo.after hostOps0 (fun b => m (c, b)) (Proc.devRef .tc main_v2) = _
  after_results
  rfl

/-- The block each window is at: rows of the activations, one block of rows of the transposed projection, and rows of the
    result by sequence. -/
theorem idx : ∀ t : Fin cfg0.N, win0_0.index t 0 = t.val ∧ win0_0.index t 1 = 0
    ∧ win0_1.index t 0 = 7 ∧ win0_1.index t 1 = 0
    ∧ win0_2.index t 0 = t.val / 8 ∧ win0_2.index t 1 = 0 ∧ win0_2.index t 2 = t.val % 8 ∧ win0_2.index t 3 = 0 :=
  (by decide +kernel : ∀ t : Fin grid0.N, win0_0.index t 0 = t.val ∧ win0_0.index t 1 = 0
    ∧ win0_1.index t 0 = 7 ∧ win0_1.index t 1 = 0
    ∧ win0_2.index t 0 = t.val / 8 ∧ win0_2.index t 1 = 0 ∧ win0_2.index t 2 = t.val % 8 ∧ win0_2.index t 3 = 0)

/-- A block of activations at an index. -/
theorem lhs_block (c : Dev nD) (t : Fin cfg0.N) (r : Fin 1024) (k : Fin 4096) (hr : t.val * 1024 + r.val < 16384) :
    iblk m c 0 t (ix2 r k) = H m c (ix2 ⟨t.val * 1024 + r.val, hr⟩ k) := by
  unfold iblk
  rw [View.read_apply]
  show V m c main_arg0 _ = _
  rw [V_main_arg0]
  show H m c _ = _
  congr 1
  funext a
  apply Fin.ext
  match a with
  | ⟨0, _⟩ => show win0_0.index t 0 * 1024 + 1 * r.val = _; rw [(idx t).1]; simp
  | ⟨1, _⟩ => show win0_0.index t 1 * 4096 + 1 * k.val = _; rw [(idx t).2.1]; simp

/-- The block of the transposed projection at an index. -/
theorem rhs_block (c : Dev nD) (t : Fin cfg0.N) (q : Fin 1024) (k : Fin 4096) :
    X0_1 m c t (ix2 q k) = W m c (ix3 0 k ⟨7168 + q.val, by omega⟩) := by
  unfold X0_1 Pipeline.Window.fill
  rw [dif_pos (moved0_1 t (ix2 q k))]
  unfold iblk
  rw [View.read_apply]
  show V m c main_v2 _ = _
  refine (congrArg (V m c main_v2) (?_ : _ = (ix2 (⟨7168 + q.val, by omega⟩ : Fin 25632) k : S25632x4096.Idx))).trans ?_
  · funext a
    apply Fin.ext
    match a with
    | ⟨0, _⟩ => show win0_1.index t 0 * 1024 + 1 * q.val = _; rw [(idx t).2.2.1]; simp
    | ⟨1, _⟩ => show win0_1.index t 1 * 4096 + 1 * k.val = _; rw [(idx t).2.2.2.1]; simp
  rw [V_main_v2]
  generalize W m c = w
  pointwise

/-- The block's product. -/
abbrev block (c : Dev nD) (t : Fin cfg0.N) : FVec Ideal S1024x1024 .f32 := k0_pay4 (F := Ideal) (iblk m c 0 t) (X0_1 m c t)

/-- The scratch after the eight planes are stored. -/
def scratch (c : Dev nD) (t : Fin cfg0.N) : FVec Ideal S8x1024x128 .f32 :=
  View.canon (Val := Elt Ideal) (e := .f32)
    [⟨Rect.unit (s := S8x1024x128) ![7, 0, 0] ![1, 1024, 128] inb_S8x1024x128_S1x1024x128_7_0_0, k0_pay13 (F := Ideal) (k0_pay4 (iblk m c 0 t) (X0_1 m c t))⟩,
    ⟨Rect.unit (s := S8x1024x128) ![6, 0, 0] ![1, 1024, 128] inb_S8x1024x128_S1x1024x128_6_0_0, k0_pay12 (F := Ideal) (k0_pay11 (iblk m c 0 t) (X0_1 m c t))⟩,
    ⟨Rect.unit (s := S8x1024x128) ![5, 0, 0] ![1, 1024, 128] inb_S8x1024x128_S1x1024x128_5_0_0, k0_pay10 (F := Ideal) (iblk m c 0 t) (X0_1 m c t)⟩,
    ⟨Rect.unit (s := S8x1024x128) ![4, 0, 0] ![1, 1024, 128] inb_S8x1024x128_S1x1024x128_4_0_0, k0_pay9 (F := Ideal) (iblk m c 0 t) (X0_1 m c t)⟩,
    ⟨Rect.unit (s := S8x1024x128) ![3, 0, 0] ![1, 1024, 128] inb_S8x1024x128_S1x1024x128_3_0_0, k0_pay8 (F := Ideal) (iblk m c 0 t) (X0_1 m c t)⟩,
    ⟨Rect.unit (s := S8x1024x128) ![2, 0, 0] ![1, 1024, 128] inb_S8x1024x128_S1x1024x128_2_0_0, k0_pay7 (F := Ideal) (iblk m c 0 t) (X0_1 m c t)⟩,
    ⟨Rect.unit (s := S8x1024x128) ![1, 0, 0] ![1, 1024, 128] inb_S8x1024x128_S1x1024x128_1_0_0, k0_pay6 (F := Ideal) (iblk m c 0 t) (X0_1 m c t)⟩,
    ⟨Rect.unit (s := S8x1024x128) ![0, 0, 0] ![1, 1024, 128] inb_S8x1024x128_S1x1024x128_0_0_0, k0_pay5 (F := Ideal) (iblk m c 0 t) (X0_1 m c t)⟩]

/-- It holds the block's product in planes. -/
theorem scratch_apply (c : Dev nD) (t : Fin cfg0.N) (y : S8x1024x128.Idx) : scratch m c t y = planes (block m c t) y := by
  unfold scratch
  refine View.canon_apply_of_pieces (Val := Elt Ideal) (e := .f32) (planes (block m c t)) _ ?_ y
    (View.cover_of_tiledL (s := S8x1024x128) _ ![1, 1024, 128] (by sl_kernel_rfl) y)
  unfold block
  generalize hA : k0_pay4 (F := Ideal) (iblk m c 0 t) (X0_1 m c t) = A
  repeat' first
    | exact fun _ h => absurd h List.not_mem_nil
    | refine List.forall_mem_cons.2 ⟨fun x => plane_store _ _ _ (by decide) ?_ (by decide) x, ?_⟩
  all_goals
    intro r l
    simp only [k0_pay5, k0_pay6, k0_pay7, k0_pay8, k0_pay9, k0_pay10, k0_pay11, k0_pay12, k0_pay13, hA]
    pointwise
  all_goals rfl

/-- The block's product at an index is the reference's product of the same rows. -/
theorem block_apply (c : Dev nD) (t : Fin cfg0.N) (b : Fin 2) (r : Fin 4) (s : Fin 2048) (q : Fin 1024) (hb : b.val = t.val / 8)
    (p : Fin 1024) (hs : s.val * 4 + r.val = t.val % 8 * 1024 + p.val) :
    block m c t (ix2 p q) = G m c (ix4 b r s q) := by
  have ht : t.val < 16 := lt_of_lt_of_eq t.isLt N_0
  have hr : t.val * 1024 + p.val < 16384 := by omega
  unfold block k0_pay4 G
  pointwise [Cert.ReferenceAttnV1Ideal.Read.val_main_v7, Cert.ReferenceAttnV1Ideal.Read.val_main_v6, Cert.ReferenceAttnV1Ideal.Read.val_main_v5, Cert.ReferenceAttnV1Ideal.Read.val_main_v4, Cert.ReferenceAttnV1Ideal.Read.val_main_v3, Cert.ReferenceAttnV1Ideal.Read.val_main_v2, Cert.ReferenceAttnV1Ideal.Read.val_main_v1, Cert.ReferenceAttnV1Ideal.Read.val_main_v0]
  simp only [lhs_block m c t _ _ hr, rhs_block m c t _ _]
  have er : t.val * 1024 + p.val = b.val * 8192 + s.val * 4 + r.val := by omega
  simp only [er]

/-- What a point writes back is its block of the reference's value. -/
theorem flushed_eq (c : Dev nD) (t : Fin cfg0.N) :
    (dats m 0 c).flushed 2 t = ((cfg0.win 2).blk t).view.read (Elt Ideal) (G m c) := by
  rw [Value.flushed2_A]
  frame_out
  funext j
  rw [View.read_apply]
  simp only [View.readCov_eq_canon']
  rw [← scratch.eq_1 m c t]
  have hF := scratch_apply m c t
  generalize scratch m c t = F at hF ⊢
  show View.canon (Val := Elt Ideal) (e := .bf16) _ _ = _
  refine (View.canon_apply_of_pieces (Val := Elt Ideal) (e := .bf16) (quarters (block m c t)) _ ?_ j
    (View.cover_of_tiledL (s := S1x4x256x1024) _ ![1, 1, 256, 128] (by sl_kernel_rfl) j)).trans ?_
  · repeat' first
      | refine List.forall_mem_cons.2 ⟨?_, ?_⟩
      | exact fun _ h => absurd h List.not_mem_nil
    all_goals
      intro x
      dsimp only
      exact quarter_store _ F hF _ _ _ (by decide) (by decide) (by decide) _ _ _ _ _ x
  show quarters (block m c t) j = G m c _
  idx_vars j
  have ht : t.val < 16 := lt_of_lt_of_eq t.isLt N_0
  have e : (((cfg0.win 2).blk t).view.emb (ix4 j0 j1 j2 j3) : S2x4x2048x1024.Idx)
      = ix4 ⟨t.val / 8, by omega⟩ j1 ⟨t.val % 8 * 256 + j2.val, by omega⟩ j3 := by
    funext a
    apply Fin.ext
    match a with
    | ⟨0, _⟩ => show win0_2.index t 0 * 1 + 1 * j0.val = _; rw [(idx t).2.2.2.2.1]; simp
    | ⟨1, _⟩ => show win0_2.index t 1 * 4 + 1 * j1.val = _; rw [(idx t).2.2.2.2.2.1]; simp
    | ⟨2, _⟩ => show win0_2.index t 2 * 256 + 1 * j2.val = _; rw [(idx t).2.2.2.2.2.2.1]; simp
    | ⟨3, _⟩ => show win0_2.index t 3 * 1024 + 1 * j3.val = _; rw [(idx t).2.2.2.2.2.2.2]; simp
  rw [e]
  exact block_apply m c t _ _ _ _ rfl _ (by show (t.val % 8 * 256 + j2.val) * 4 + j1.val = t.val % 8 * 1024 + (j2.val * 4 + j1.val); omega)

/-- Every index of the result lies in some point's block. -/
theorem cover (i : S2x4x2048x1024.Idx) : ∃ t : Fin cfg0.N, (cfg0.win 2).flush t = true ∧ i ∈ ((cfg0.win 2).blk t).view.set := by
  have h0 : (i 0).val < 2 := (i 0).isLt
  have h1 : (i 1).val < 4 := (i 1).isLt
  have h2 : (i 2).val < 2048 := (i 2).isLt
  have h3 : (i 3).val < 1024 := (i 3).isLt
  let t : Fin cfg0.N := ⟨(i 0).val * 8 + (i 2).val / 256, by show _ < grid0.N; rw [N_0]; omega⟩
  have tv : t.val = (i 0).val * 8 + (i 2).val / 256 := rfl
  refine ⟨t, flush0_2 t, ?_⟩
  show i ∈ ((View.whole main_v3).slice (win0_2.rect t)).set
  rw [View.set_slice_whole, Rect.mem_set_unit]
  obtain ⟨-, -, -, -, e0, e1, e2, e3⟩ := idx t
  rw [tv] at e0 e2
  intro a
  match a with
  | ⟨0, _⟩ => show win0_2.index t 0 * 1 ≤ (i 0).val ∧ (i 0).val < win0_2.index t 0 * 1 + 1; omega
  | ⟨1, _⟩ => show win0_2.index t 1 * 4 ≤ (i 1).val ∧ (i 1).val < win0_2.index t 1 * 4 + 4; omega
  | ⟨2, _⟩ => show win0_2.index t 2 * 256 ≤ (i 2).val ∧ (i 2).val < win0_2.index t 2 * 256 + 256; omega
  | ⟨3, _⟩ => show win0_2.index t 3 * 1024 ≤ (i 3).val ∧ (i 3).val < win0_2.index t 3 * 1024 + 1024; omega

/-- So the result array ends at the reference's value, -/
theorem final (c : Dev nD) : (dats m 0 c).arrAt 2 cfg0.N = G m c :=
  (dats m 0 c).arrAt_eq_of_cover 2 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelAttnV1Ideal.RefValue

end
-- ==== Proof.Values.AttnV2.lean ====
/-
  The values of the attention's third group: the band of the input projection that starts at column 8192.
-/
module

public import proofs.«01_k».proof.Proof.Gen.KernelAttnV2Ideal.Value
public import proofs.«01_k».proof.Proof.Gen.ReferenceAttnV2Ideal.Run
public import proofs.«01_k».proof.Proof.Gen.ReferenceAttnV2Ideal.Read
public import proofs.«01_k».proof.Proof.Values.Dilated
public import Idealize.ShloMosaic.Lib.Pipeline.Value
public import Idealize.ShloMosaic.Lib.Pipeline.ValueKit
public import Idealize.ShloMosaic.Lib.Pointwise

@[expose] public section

set_option maxRecDepth 16384

noncomputable section

namespace Cert.KernelAttnV2Ideal.RefValue

open Layer Cert.KernelAttnV2Ideal Cert.KernelAttnV2Ideal.Gen Idealize.ShloMosaic Idealize.ShloMosaic.TcCoe Idealize.SL.Sem
open Idealize.ShloMosaic.Pipeline (Dat)

variable (m : (ℓ : Loc nD τ sig) → Buf (Elt Ideal) ℓ)

/-- The activations. -/
abbrev H (c : Dev nD) : FVec Ideal S16384x4096 .bf16 := m ((c : Thread nD τ).loc main_arg0)
/-- The input projection. -/
abbrev W (c : Dev nD) : FVec Ideal S1x4096x25632 .f32 := m ((c : Thread nD τ).loc main_arg1)

/-- The values the reference computes of the same arguments. -/
abbrev G (c : Dev nD) : FVec Ideal S2x16x512x1024 .bf16 :=
  Cert.ReferenceAttnV2Ideal.Read.val_main_v7 (F := Ideal) (H m c) (W m c)

/-- The array the second window reads: the projection, transposed. -/
theorem V_main_v2 (c : Dev nD) : V m c main_v2
    = truncf .bf16 (transpose S25632x4096 [1, 0] (shapeCast S4096x25632 (W m c) shapeCasts_S1x4096x25632_S4096x25632) transposes_S4096x25632_S25632x4096_1_0) bitsLt_bf16_f32 := by
  show StableHlo.after hostOps0 (fun b => m (c, b)) (Proc.devRef .tc main_v2) = _
  after_results
  rfl

/-- The block each window is at: rows of the activations, one block of rows of the transposed projection, and rows of the
    result by sequence. -/
theorem idx : ∀ t : Fin cfg0.N, win0_0.index t 0 = t.val ∧ win0_0.index t 1 = 0
    ∧ win0_1.index t 0 = 8 ∧ win0_1.index t 1 = 0
    ∧ win0_2.index t 0 = t.val / 8 ∧ win0_2.index t 1 = 0 ∧ win0_2.index t 2 = t.val % 8 ∧ win0_2.index t 3 = 0 :=
  (by decide +kernel : ∀ t : Fin grid0.N, win0_0.index t 0 = t.val ∧ win0_0.index t 1 = 0
    ∧ win0_1.index t 0 = 8 ∧ win0_1.index t 1 = 0
    ∧ win0_2.index t 0 = t.val / 8 ∧ win0_2.index t 1 = 0 ∧ win0_2.index t 2 = t.val % 8 ∧ win0_2.index t 3 = 0)

/-- A block of activations at an index. -/
theorem lhs_block (c : Dev nD) (t : Fin cfg0.N) (r : Fin 1024) (k : Fin 4096) (hr : t.val * 1024 + r.val < 16384) :
    iblk m c 0 t (ix2 r k) = H m c (ix2 ⟨t.val * 1024 + r.val, hr⟩ k) := by
  unfold iblk
  rw [View.read_apply]
  show V m c main_arg0 _ = _
  rw [V_main_arg0]
  show H m c _ = _
  congr 1
  funext a
  apply Fin.ext
  match a with
  | ⟨0, _⟩ => show win0_0.index t 0 * 1024 + 1 * r.val = _; rw [(idx t).1]; simp
  | ⟨1, _⟩ => show win0_0.index t 1 * 4096 + 1 * k.val = _; rw [(idx t).2.1]; simp

/-- The block of the transposed projection at an index. -/
theorem rhs_block (c : Dev nD) (t : Fin cfg0.N) (q : Fin 1024) (k : Fin 4096) :
    X0_1 m c t (ix2 q k) = W m c (ix3 0 k ⟨8192 + q.val, by omega⟩) := by
  unfold X0_1 Pipeline.Window.fill
  rw [dif_pos (moved0_1 t (ix2 q k))]
  unfold iblk
  rw [View.read_apply]
  show V m c main_v2 _ = _
  refine (congrArg (V m c main_v2) (?_ : _ = (ix2 (⟨8192 + q.val, by omega⟩ : Fin 25632) k : S25632x4096.Idx))).trans ?_
  · funext a
    apply Fin.ext
    match a with
    | ⟨0, _⟩ => show win0_1.index t 0 * 1024 + 1 * q.val = _; rw [(idx t).2.2.1]; simp
    | ⟨1, _⟩ => show win0_1.index t 1 * 4096 + 1 * k.val = _; rw [(idx t).2.2.2.1]; simp
  rw [V_main_v2]
  generalize W m c = w
  pointwise

/-- The block's product. -/
abbrev block (c : Dev nD) (t : Fin cfg0.N) : FVec Ideal S1024x1024 .f32 := k0_pay2 (F := Ideal) (iblk m c 0 t) (X0_1 m c t)

/-- The scratch after the eight planes are stored. -/
def scratch (c : Dev nD) (t : Fin cfg0.N) : FVec Ideal S8x1024x128 .f32 :=
  View.canon (Val := Elt Ideal) (e := .f32)
    [⟨Rect.unit (s := S8x1024x128) ![7, 0, 0] ![1, 1024, 128] inb_S8x1024x128_S1x1024x128_7_0_0, k0_pay11 (F := Ideal) (k0_pay2 (iblk m c 0 t) (X0_1 m c t))⟩,
    ⟨Rect.unit (s := S8x1024x128) ![6, 0, 0] ![1, 1024, 128] inb_S8x1024x128_S1x1024x128_6_0_0, k0_pay10 (F := Ideal) (k0_pay9 (iblk m c 0 t) (X0_1 m c t))⟩,
    ⟨Rect.unit (s := S8x1024x128) ![5, 0, 0] ![1, 1024, 128] inb_S8x1024x128_S1x1024x128_5_0_0, k0_pay8 (F := Ideal) (iblk m c 0 t) (X0_1 m c t)⟩,
    ⟨Rect.unit (s := S8x1024x128) ![4, 0, 0] ![1, 1024, 128] inb_S8x1024x128_S1x1024x128_4_0_0, k0_pay7 (F := Ideal) (iblk m c 0 t) (X0_1 m c t)⟩,
    ⟨Rect.unit (s := S8x1024x128) ![3, 0, 0] ![1, 1024, 128] inb_S8x1024x128_S1x1024x128_3_0_0, k0_pay6 (F := Ideal) (iblk m c 0 t) (X0_1 m c t)⟩,
    ⟨Rect.unit (s := S8x1024x128) ![2, 0, 0] ![1, 1024, 128] inb_S8x1024x128_S1x1024x128_2_0_0, k0_pay5 (F := Ideal) (iblk m c 0 t) (X0_1 m c t)⟩,
    ⟨Rect.unit (s := S8x1024x128) ![1, 0, 0] ![1, 1024, 128] inb_S8x1024x128_S1x1024x128_1_0_0, k0_pay4 (F := Ideal) (iblk m c 0 t) (X0_1 m c t)⟩,
    ⟨Rect.unit (s := S8x1024x128) ![0, 0, 0] ![1, 1024, 128] inb_S8x1024x128_S1x1024x128_0_0_0, k0_pay3 (F := Ideal) (iblk m c 0 t) (X0_1 m c t)⟩]

/-- It holds the block's product in planes. -/
theorem scratch_apply (c : Dev nD) (t : Fin cfg0.N) (y : S8x1024x128.Idx) : scratch m c t y = planes (block m c t) y := by
  unfold scratch
  refine View.canon_apply_of_pieces (Val := Elt Ideal) (e := .f32) (planes (block m c t)) _ ?_ y
    (View.cover_of_tiledL (s := S8x1024x128) _ ![1, 1024, 128] (by sl_kernel_rfl) y)
  unfold block
  generalize hA : k0_pay2 (F := Ideal) (iblk m c 0 t) (X0_1 m c t) = A
  repeat' first
    | exact fun _ h => absurd h List.not_mem_nil
    | refine List.forall_mem_cons.2 ⟨fun x => plane_store _ _ _ (by decide) ?_ (by decide) x, ?_⟩
  all_goals
    intro r l
    simp only [k0_pay3, k0_pay4, k0_pay5, k0_pay6, k0_pay7, k0_pay8, k0_pay9, k0_pay10, k0_pay11, hA]
    pointwise
  all_goals rfl

/-- The block's product at an index is the reference's product of the same rows. -/
theorem block_apply (c : Dev nD) (t : Fin cfg0.N) (b : Fin 2) (r : Fin 16) (s : Fin 512) (q : Fin 1024) (hb : b.val = t.val / 8)
    (p : Fin 1024) (hs : s.val * 16 + r.val = t.val % 8 * 1024 + p.val) :
    block m c t (ix2 p q) = G m c (ix4 b r s q) := by
  have ht : t.val < 16 := lt_of_lt_of_eq t.isLt N_0
  have hr : t.val * 1024 + p.val < 16384 := by omega
  unfold block k0_pay2 G
  pointwise [Cert.ReferenceAttnV2Ideal.Read.val_main_v7, Cert.ReferenceAttnV2Ideal.Read.val_main_v6, Cert.ReferenceAttnV2Ideal.Read.val_main_v5, Cert.ReferenceAttnV2Ideal.Read.val_main_v4, Cert.ReferenceAttnV2Ideal.Read.val_main_v3, Cert.ReferenceAttnV2Ideal.Read.val_main_v2, Cert.ReferenceAttnV2Ideal.Read.val_main_v1, Cert.ReferenceAttnV2Ideal.Read.val_main_v0]
  simp only [lhs_block m c t _ _ hr, rhs_block m c t _ _]
  have er : t.val * 1024 + p.val = b.val * 8192 + s.val * 16 + r.val := by omega
  simp only [er]

/-- What a point writes back is its block of the reference's value. -/
theorem flushed_eq (c : Dev nD) (t : Fin cfg0.N) :
    (dats m 0 c).flushed 2 t = ((cfg0.win 2).blk t).view.read (Elt Ideal) (G m c) := by
  rw [Value.flushed2_A]
  frame_out
  funext j
  rw [View.read_apply]
  simp only [View.readCov_eq_canon']
  rw [← scratch.eq_1 m c t]
  have hF := scratch_apply m c t
  generalize scratch m c t = F at hF ⊢
  show View.canon (Val := Elt Ideal) (e := .bf16) _ _ = _
  refine (View.canon_apply_of_pieces (Val := Elt Ideal) (e := .bf16) (sixteenths (block m c t)) _ ?_ j
    (View.cover_of_tiledL (s := S1x16x64x1024) _ ![1, 1, 64, 128] (by sl_kernel_rfl) j)).trans ?_
  · repeat' first
      | refine List.forall_mem_cons.2 ⟨?_, ?_⟩
      | exact fun _ h => absurd h List.not_mem_nil
    all_goals
      intro x
      dsimp only
      exact sixteenth_store _ F hF _ _ _ (by decide) (by decide) (by decide) _ _ _ _ _ x
  show sixteenths (block m c t) j = G m c _
  idx_vars j
  have ht : t.val < 16 := lt_of_lt_of_eq t.isLt N_0
  have e : (((cfg0.win 2).blk t).view.emb (ix4 j0 j1 j2 j3) : S2x16x512x1024.Idx)
      = ix4 ⟨t.val / 8, by omega⟩ j1 ⟨t.val % 8 * 64 + j2.val, by omega⟩ j3 := by
    funext a
    apply Fin.ext
    match a with
    | ⟨0, _⟩ => show win0_2.index t 0 * 1 + 1 * j0.val = _; rw [(idx t).2.2.2.2.1]; simp
    | ⟨1, _⟩ => show win0_2.index t 1 * 16 + 1 * j1.val = _; rw [(idx t).2.2.2.2.2.1]; simp
    | ⟨2, _⟩ => show win0_2.index t 2 * 64 + 1 * j2.val = _; rw [(idx t).2.2.2.2.2.2.1]; simp
    | ⟨3, _⟩ => show win0_2.index t 3 * 1024 + 1 * j3.val = _; rw [(idx t).2.2.2.2.2.2.2]; simp
  rw [e]
  exact block_apply m c t _ _ _ _ rfl _ (by show (t.val % 8 * 64 + j2.val) * 16 + j1.val = t.val % 8 * 1024 + (j2.val * 16 + j1.val); omega)

/-- Every index of the result lies in some point's block. -/
theorem cover (i : S2x16x512x1024.Idx) : ∃ t : Fin cfg0.N, (cfg0.win 2).flush t = true ∧ i ∈ ((cfg0.win 2).blk t).view.set := by
  have h0 : (i 0).val < 2 := (i 0).isLt
  have h1 : (i 1).val < 16 := (i 1).isLt
  have h2 : (i 2).val < 512 := (i 2).isLt
  have h3 : (i 3).val < 1024 := (i 3).isLt
  let t : Fin cfg0.N := ⟨(i 0).val * 8 + (i 2).val / 64, by show _ < grid0.N; rw [N_0]; omega⟩
  have tv : t.val = (i 0).val * 8 + (i 2).val / 64 := rfl
  refine ⟨t, flush0_2 t, ?_⟩
  show i ∈ ((View.whole main_v3).slice (win0_2.rect t)).set
  rw [View.set_slice_whole, Rect.mem_set_unit]
  obtain ⟨-, -, -, -, e0, e1, e2, e3⟩ := idx t
  rw [tv] at e0 e2
  intro a
  match a with
  | ⟨0, _⟩ => show win0_2.index t 0 * 1 ≤ (i 0).val ∧ (i 0).val < win0_2.index t 0 * 1 + 1; omega
  | ⟨1, _⟩ => show win0_2.index t 1 * 16 ≤ (i 1).val ∧ (i 1).val < win0_2.index t 1 * 16 + 16; omega
  | ⟨2, _⟩ => show win0_2.index t 2 * 64 ≤ (i 2).val ∧ (i 2).val < win0_2.index t 2 * 64 + 64; omega
  | ⟨3, _⟩ => show win0_2.index t 3 * 1024 ≤ (i 3).val ∧ (i 3).val < win0_2.index t 3 * 1024 + 1024; omega

/-- So the result array ends at the reference's value, -/
theorem final (c : Dev nD) : (dats m 0 c).arrAt 2 cfg0.N = G m c :=
  (dats m 0 c).arrAt_eq_of_cover 2 (G m c) (fun t _ => flushed_eq m c t) cover

/-- and the run, read: the result at the reference's value, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.KernelAttnV2Ideal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelQK
public import proofs.«01_k».proof.Proof.Gen.KernelQK.Skeleton
public import proofs.«01_k».proof.Proof.Gen.KernelQK.Launch
public import proofs.«01_k».proof.Proof.Gen.KernelQK.Points
public import proofs.«01_k».proof.Proof.Gen.KernelQK.Frame
public import proofs.«01_k».proof.Proof.Gen.KernelQKIdeal
public import proofs.«01_k».proof.Proof.Gen.KernelQKIdeal.Skeleton
public import proofs.«01_k».proof.Proof.Gen.KernelQKIdeal.Launch
public import proofs.«01_k».proof.Proof.Gen.KernelQKIdeal.Points
public import proofs.«01_k».proof.Proof.Gen.KernelQKIdeal.Frame
public import proofs.«01_k».proof.Proof.Gen.ReferenceQKIdeal
public import proofs.«01_k».proof.Proof.Gen.KernelVO
public import proofs.«01_k».proof.Proof.Gen.KernelVO.Skeleton
public import proofs.«01_k».proof.Proof.Gen.KernelVO.Launch
public import proofs.«01_k».proof.Proof.Gen.KernelVO.Points
public import proofs.«01_k».proof.Proof.Gen.KernelVO.Frame
public import proofs.«01_k».proof.Proof.Gen.KernelVOIdeal
public import proofs.«01_k».proof.Proof.Gen.KernelVOIdeal.Skeleton
public import proofs.«01_k».proof.Proof.Gen.KernelVOIdeal.Launch
public import proofs.«01_k».proof.Proof.Gen.KernelVOIdeal.Points
public import proofs.«01_k».proof.Proof.Gen.KernelVOIdeal.Frame
public import proofs.«01_k».proof.Proof.Gen.ReferenceVOIdeal
public import proofs.«01_k».proof.Proof.Gen.KernelGates
public import proofs.«01_k».proof.Proof.Gen.KernelGates.Skeleton
public import proofs.«01_k».proof.Proof.Gen.KernelGates.Launch
public import proofs.«01_k».proof.Proof.Gen.KernelGates.Points
public import proofs.«01_k».proof.Proof.Gen.KernelGates.Frame
public import proofs.«01_k».proof.Proof.Gen.KernelGatesIdeal
public import proofs.«01_k».proof.Proof.Gen.KernelGatesIdeal.Skeleton
public import proofs.«01_k».proof.Proof.Gen.KernelGatesIdeal.Launch
public import proofs.«01_k».proof.Proof.Gen.KernelGatesIdeal.Points
public import proofs.«01_k».proof.Proof.Gen.KernelGatesIdeal.Frame
public import proofs.«01_k».proof.Proof.Gen.ReferenceGatesIdeal
public import proofs.«01_k».proof.Proof.Gen.KernelGateUp
public import proofs.«01_k».proof.Proof.Gen.KernelGateUp.Skeleton
public import proofs.«01_k».proof.Proof.Gen.KernelGateUp.Launch
public import proofs.«01_k».proof.Proof.Gen.KernelGateUp.Points
public import proofs.«01_k».proof.Proof.Gen.KernelGateUp.Frame
public import proofs.«01_k».proof.Proof.Gen.KernelGateUpIdeal
public import proofs.«01_k».proof.Proof.Gen.KernelGateUpIdeal.Skeleton
public import proofs.«01_k».proof.Proof.Gen.KernelGateUpIdeal.Launch
public import proofs.«01_k».proof.Proof.Gen.KernelGateUpIdeal.Points
public import proofs.«01_k».proof.Proof.Gen.KernelGateUpIdeal.Frame
public import proofs.«01_k».proof.Proof.Gen.ReferenceGateUpIdeal
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.ReferenceDownIdeal
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.ReferenceMergeIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelNorm
public import proofs.«01_k».proof.Proof.Gen.KernelNorm.Skeleton
public import proofs.«01_k».proof.Proof.Gen.KernelNorm.Launch
public import proofs.«01_k».proof.Proof.Gen.KernelNorm.Points
public import proofs.«01_k».proof.Proof.Gen.KernelNorm.Frame
public import proofs.«01_k».proof.Proof.Gen.KernelNormIdeal
public import proofs.«01_k».proof.Proof.Gen.KernelNormIdeal.Skeleton
public import proofs.«01_k».proof.Proof.Gen.KernelNormIdeal.Launch
public import proofs.«01_k».proof.Proof.Gen.KernelNormIdeal.Points
public import proofs.«01_k».proof.Proof.Gen.KernelNormIdeal.Frame
public import proofs.«01_k».proof.Proof.Gen.ReferenceNormIdeal
public import proofs.«01_k».proof.Proof.Gen.KernelNormH
public import proofs.«01_k».proof.Proof.Gen.KernelNormH.Skeleton
public import proofs.«01_k».proof.Proof.Gen.KernelNormH.Launch
public import proofs.«01_k».proof.Proof.Gen.KernelNormH.Points
public import proofs.«01_k».proof.Proof.Gen.KernelNormH.Frame
public import proofs.«01_k».proof.Proof.Gen.KernelNormHIdeal
public import proofs.«01_k».proof.Proof.Gen.KernelNormHIdeal.Skeleton
public import proofs.«01_k».proof.Proof.Gen.KernelNormHIdeal.Launch
public import proofs.«01_k».proof.Proof.Gen.KernelNormHIdeal.Points
public import proofs.«01_k».proof.Proof.Gen.KernelNormHIdeal.Frame
public import proofs.«01_k».proof.Proof.Gen.ReferenceNormHIdeal
public import proofs.«01_k».proof.Proof.Gen.KernelPost
public import proofs.«01_k».proof.Proof.Gen.KernelPost.Skeleton
public import proofs.«01_k».proof.Proof.Gen.KernelPost.Launch
public import proofs.«01_k».proof.Proof.Gen.KernelPost.Points
public import proofs.«01_k».proof.Proof.Gen.KernelPost.Frame
public import proofs.«01_k».proof.Proof.Gen.KernelPostIdeal
public import proofs.«01_k».proof.Proof.Gen.KernelPostIdeal.Skeleton
public import proofs.«01_k».proof.Proof.Gen.KernelPostIdeal.Launch
public import proofs.«01_k».proof.Proof.Gen.KernelPostIdeal.Points
public import proofs.«01_k».proof.Proof.Gen.KernelPostIdeal.Frame
public import proofs.«01_k».proof.Proof.Gen.ReferencePostIdeal
public import proofs.«01_k».proof.Proof.Gen.KernelConv
public import proofs.«01_k».proof.Proof.Gen.KernelConv.Skeleton
public import proofs.«01_k».proof.Proof.Gen.KernelConv.Launch
public import proofs.«01_k».proof.Proof.Gen.KernelConv.Points
public import proofs.«01_k».proof.Proof.Gen.KernelConv.Frame
public import proofs.«01_k».proof.Proof.Gen.KernelConvIdeal
public import proofs.«01_k».proof.Proof.Gen.KernelConvIdeal.Skeleton
public import proofs.«01_k».proof.Proof.Gen.KernelConvIdeal.Launch
public import proofs.«01_k».proof.Proof.Gen.KernelConvIdeal.Points
public import proofs.«01_k».proof.Proof.Gen.KernelConvIdeal.Frame
public import proofs.«01_k».proof.Proof.Gen.ReferenceConvIdeal
public import proofs.«01_k».proof.Proof.Gen.KernelAttnV0
public import proofs.«01_k».proof.Proof.Gen.KernelAttnV0.Skeleton
public import proofs.«01_k».proof.Proof.Gen.KernelAttnV0.Launch
public import proofs.«01_k».proof.Proof.Gen.KernelAttnV0.Points
public import proofs.«01_k».proof.Proof.Gen.KernelAttnV0.Frame
public import proofs.«01_k».proof.Proof.Gen.KernelAttnV0Ideal
public import proofs.«01_k».proof.Proof.Gen.KernelAttnV0Ideal.Skeleton
public import proofs.«01_k».proof.Proof.Gen.KernelAttnV0Ideal.Launch
public import proofs.«01_k».proof.Proof.Gen.KernelAttnV0Ideal.Points
public import proofs.«01_k».proof.Proof.Gen.KernelAttnV0Ideal.Frame
public import proofs.«01_k».proof.Proof.Gen.ReferenceAttnV0Ideal
public import proofs.«01_k».proof.Proof.Gen.KernelAttnV1
public import proofs.«01_k».proof.Proof.Gen.KernelAttnV1.Skeleton
public import proofs.«01_k».proof.Proof.Gen.KernelAttnV1.Launch
public import proofs.«01_k».proof.Proof.Gen.KernelAttnV1.Points
public import proofs.«01_k».proof.Proof.Gen.KernelAttnV1.Frame
public import proofs.«01_k».proof.Proof.Gen.KernelAttnV1Ideal
public import proofs.«01_k».proof.Proof.Gen.KernelAttnV1Ideal.Skeleton
public import proofs.«01_k».proof.Proof.Gen.KernelAttnV1Ideal.Launch
public import proofs.«01_k».proof.Proof.Gen.KernelAttnV1Ideal.Points
public import proofs.«01_k».proof.Proof.Gen.KernelAttnV1Ideal.Frame
public import proofs.«01_k».proof.Proof.Gen.ReferenceAttnV1Ideal
public import proofs.«01_k».proof.Proof.Gen.KernelAttnV2
public import proofs.«01_k».proof.Proof.Gen.KernelAttnV2.Skeleton
public import proofs.«01_k».proof.Proof.Gen.KernelAttnV2.Launch
public import proofs.«01_k».proof.Proof.Gen.KernelAttnV2.Points
public import proofs.«01_k».proof.Proof.Gen.KernelAttnV2.Frame
public import proofs.«01_k».proof.Proof.Gen.KernelAttnV2Ideal
public import proofs.«01_k».proof.Proof.Gen.KernelAttnV2Ideal.Skeleton
public import proofs.«01_k».proof.Proof.Gen.KernelAttnV2Ideal.Launch
public import proofs.«01_k».proof.Proof.Gen.KernelAttnV2Ideal.Points
public import proofs.«01_k».proof.Proof.Gen.KernelAttnV2Ideal.Frame
public import proofs.«01_k».proof.Proof.Gen.ReferenceAttnV2Ideal
public import Idealize.ShloMosaic.Adequacy
public import Idealize.ShloMosaic.Init
public import proofs.«01_k».proof.Proof.Values.BranchGates
public import proofs.«01_k».proof.Proof.Values.MlstmQK
public import proofs.«01_k».proof.Proof.Values.MlstmVO
public import proofs.«01_k».proof.Proof.Values.MlstmGates
public import proofs.«01_k».proof.Proof.Values.GateUp
public import proofs.«01_k».proof.Proof.Values.Down
public import proofs.«01_k».proof.Proof.Values.Merge
public import proofs.«01_k».proof.Proof.Values.Out
public import proofs.«01_k».proof.Proof.Values.Norm
public import proofs.«01_k».proof.Proof.Values.NormH
public import Idealize.ShloMosaic.Lib.Quiescent
public import proofs.«01_k».proof.Proof.Values.Post
public import proofs.«01_k».proof.Proof.Values.Conv
public import proofs.«01_k».proof.Proof.Values.AttnV0
public import proofs.«01_k».proof.Proof.Values.AttnV1
public import proofs.«01_k».proof.Proof.Values.AttnV2

@[expose] public section

noncomputable section

namespace Cert.Proof

open Idealize.ShloMosaic Idealize.SL.Sem

/-- The reference of the branch gates ends with its arguments as they were; it has no counters. -/
theorem frame_branchGates : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the branch gates in the kernel and in the reference end at one value. -/
theorem algebraic_branchGates : Cert.algebraic_KernelIdeal_ReferenceIdeal := fun m ρ m' ρ' _ hag =>
  ⟨fun c => Cert.KernelIdeal.RefValue.G m c, Cert.KernelIdeal.RefValue.run m ρ,
    (θ_run Cert.ReferenceIdeal.defs _ _).mono
      (fun _ h c => ⟨(h c).1.trans (by rw [(hag c).1, (hag c).2]; rfl), (h c).2⟩)
      (Cert.ReferenceIdeal.Value.run (F := Ideal) m' ρ')⟩

/-- The reference of the queries and keys of the recurrent branch ends with its arguments as they were; it has no counters. -/
theorem frame_qk : Cert.quiescent_ReferenceQKIdeal := fun m ρ _ =>
  (θ_run Cert.ReferenceQKIdeal.defs _ _).mono (fun r h => ⟨fun c => (h c).2, sem_eq_zero_of_no_sems (by decide) r.2⟩)
    (Cert.ReferenceQKIdeal.Value.run (F := Ideal) m ρ)

/-- Over the extended reals the queries and keys of the recurrent branch in the kernel and in the reference end at one value. -/
theorem algebraic_qk : Cert.algebraic_KernelQKIdeal_ReferenceQKIdeal := fun m ρ m' ρ' _ hag =>
  ⟨fun c => Cert.KernelQKIdeal.RefValue.G m c, Cert.KernelQKIdeal.RefValue.run m ρ,
    (θ_run Cert.ReferenceQKIdeal.defs _ _).mono
      (fun _ h c => ⟨(h c).1.trans (by rw [(hag c).1, (hag c).2]; rfl), (h c).2⟩)
      (Cert.ReferenceQKIdeal.Value.run (F := Ideal) m' ρ')⟩

/-- The reference of the values and output gates of the recurrent branch ends with its arguments as they were; it has no counters. -/
theorem frame_vo : Cert.quiescent_ReferenceVOIdeal := fun m ρ _ =>
  (θ_run Cert.ReferenceVOIdeal.defs _ _).mono (fun r h => ⟨fun c => (h c).2, sem_eq_zero_of_no_sems (by decide) r.2⟩)
    (Cert.ReferenceVOIdeal.Value.run (F := Ideal) m ρ)

/-- Over the extended reals the values and output gates of the recurrent branch in the kernel and in the reference end at one value. -/
theorem algebraic_vo : Cert.algebraic_KernelVOIdeal_ReferenceVOIdeal := fun m ρ m' ρ' _ hag =>
  ⟨fun c => Cert.KernelVOIdeal.RefValue.G m c, Cert.KernelVOIdeal.RefValue.run m ρ,
    (θ_run Cert.ReferenceVOIdeal.defs _ _).mono
      (fun _ h c => ⟨(h c).1.trans (by rw [(hag c).1, (hag c).2]; rfl), (h c).2⟩)
      (Cert.ReferenceVOIdeal.Value.run (F := Ideal) m' ρ')⟩

/-- The reference of the input and forget gates of the recurrent branch ends with its arguments as they were; it has no counters. -/
theorem frame_gates : Cert.quiescent_ReferenceGatesIdeal := fun m ρ _ =>
  (θ_run Cert.ReferenceGatesIdeal.defs _ _).mono (fun r h => ⟨fun c => (h c).2, sem_eq_zero_of_no_sems (by decide) r.2⟩)
    (Cert.ReferenceGatesIdeal.Value.run (F := Ideal) m ρ)

/-- Over the extended reals the input and forget gates of the recurrent branch in the kernel and in the reference end at one value. -/
theorem algebraic_gates : Cert.algebraic_KernelGatesIdeal_ReferenceGatesIdeal := fun m ρ m' ρ' _ hag =>
  ⟨fun c => Cert.KernelGatesIdeal.RefValue.G m c, Cert.KernelGatesIdeal.RefValue.run m ρ,
    (θ_run Cert.ReferenceGatesIdeal.defs _ _).mono
      (fun _ h c => ⟨(h c).1.trans (by rw [(hag c).1, (hag c).2]; rfl), (h c).2⟩)
      (Cert.ReferenceGatesIdeal.Value.run (F := Ideal) m' ρ')⟩

/-- The reference of the first half of a feed-forward ends with its arguments as they were; it has no counters. -/
theorem frame_gateUp : Cert.quiescent_ReferenceGateUpIdeal := fun m ρ _ =>
  (θ_run Cert.ReferenceGateUpIdeal.defs _ _).mono (fun r h => ⟨fun c => (h c).2, sem_eq_zero_of_no_sems (by decide) r.2⟩)
    (Cert.ReferenceGateUpIdeal.Value.run (F := Ideal) m ρ)

/-- Over the extended reals the first half of a feed-forward in the kernel and in the reference end at one value. -/
theorem algebraic_gateUp : Cert.algebraic_KernelGateUpIdeal_ReferenceGateUpIdeal := fun m ρ m' ρ' _ hag =>
  ⟨fun c => Cert.KernelGateUpIdeal.RefValue.G m c, Cert.KernelGateUpIdeal.RefValue.run m ρ,
    (θ_run Cert.ReferenceGateUpIdeal.defs _ _).mono
      (fun _ h c => ⟨(h c).1.trans (by rw [(hag c).1, (hag c).2.1, (hag c).2.2]; rfl), (h c).2⟩)
      (Cert.ReferenceGateUpIdeal.Value.run (F := Ideal) m' ρ')⟩

/-- The reference of the second half of a feed-forward ends with its arguments as they were; it has no counters. -/
theorem frame_down : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

/-- Over the extended reals the second half of a feed-forward in the kernel and in the reference end at one value. -/
theorem algebraic_down : Cert.algebraic_KernelDownIdeal_ReferenceDownIdeal := fun m ρ m' ρ' _ hag =>
  ⟨fun c => Cert.KernelDownIdeal.RefValue.G m c, Cert.KernelDownIdeal.RefValue.run m ρ,
    (θ_run Cert.ReferenceDownIdeal.defs _ _).mono
      (fun _ h c => ⟨(h c).1.trans (by rw [(hag c).1, (hag c).2.1, (hag c).2.2]; rfl), (h c).2⟩)
      (Cert.ReferenceDownIdeal.Value.run (F := Ideal) m' ρ')⟩

/-- The reference of the merge of the branches ends with its arguments as they were; it has no counters. -/
theorem frame_merge : Cert.quiescent_ReferenceMergeIdeal := fun m ρ _ =>
  (θ_run Cert.ReferenceMergeIdeal.defs _ _).mono (fun r h => ⟨fun c => (h c).2, sem_eq_zero_of_no_sems (by decide) r.2⟩)
    (Cert.ReferenceMergeIdeal.Value.run (F := Ideal) m ρ)

/-- Over the extended reals the merge of the branches in the kernel and in the reference end at one value. -/
theorem algebraic_merge : Cert.algebraic_KernelMergeIdeal_ReferenceMergeIdeal := fun m ρ m' ρ' _ hag =>
  ⟨fun c => Cert.KernelMergeIdeal.RefValue.G m c, Cert.KernelMergeIdeal.RefValue.run m ρ,
    (θ_run Cert.ReferenceMergeIdeal.defs _ _).mono
      (fun _ h c => ⟨(h c).1.trans (by rw [(hag c).1, (hag c).2.1, (hag c).2.2.1, (hag c).2.2.2.1, (hag c).2.2.2.2]; rfl), (h c).2⟩)
      (Cert.ReferenceMergeIdeal.Value.run (F := Ideal) m' ρ')⟩

/-- The reference of the output projection ends with its arguments as they were; it has no counters. -/
theorem frame_out : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

/-- Over the extended reals the output projection in the kernel and in the reference end at one value. -/
theorem algebraic_out : Cert.algebraic_KernelOutIdeal_ReferenceOutIdeal := fun m ρ m' ρ' _ hag =>
  ⟨fun c => Cert.KernelOutIdeal.RefValue.G m c, Cert.KernelOutIdeal.RefValue.run m ρ,
    (θ_run Cert.ReferenceOutIdeal.defs _ _).mono
      (fun _ h c => ⟨(h c).1.trans (by rw [(hag c).1, (hag c).2.1, (hag c).2.2]; rfl), (h c).2⟩)
      (Cert.ReferenceOutIdeal.Value.run (F := Ideal) m' ρ')⟩

/-- The reference of the final norm ends with its arguments as they were; it has no counters. -/
theorem frame_norm : Cert.quiescent_ReferenceNormIdeal := fun m ρ _ =>
  (θ_run Cert.ReferenceNormIdeal.defs _ _).mono (fun r h => ⟨fun c => (h c).2, sem_eq_zero_of_no_sems (by decide) r.2⟩)
    (Cert.ReferenceNormIdeal.Value.run (F := Ideal) m ρ)

/-- Over the extended reals the final norm in the kernel and in the reference end at one value. -/
theorem algebraic_norm : Cert.algebraic_KernelNormIdeal_ReferenceNormIdeal := fun m ρ m' ρ' _ hag =>
  ⟨fun c => Cert.KernelNormIdeal.RefValue.G m c, Cert.KernelNormIdeal.RefValue.run m ρ,
    (θ_run Cert.ReferenceNormIdeal.defs _ _).mono
      (fun _ h c => ⟨(h c).1.trans (by rw [(hag c).1, (hag c).2]; rfl), (h c).2⟩)
      (Cert.ReferenceNormIdeal.Value.run (F := Ideal) m' ρ')⟩

/-- The reference of the norms inside the layer ends with its arguments as they were; it has no counters. -/
theorem frame_normH : Cert.quiescent_ReferenceNormHIdeal := fun m ρ _ =>
  (θ_run Cert.ReferenceNormHIdeal.defs _ _).mono (fun r h => ⟨fun c => (h c).2, sem_eq_zero_of_no_sems (by decide) r.2⟩)
    (Cert.ReferenceNormHIdeal.Value.run (F := Ideal) m ρ)

/-- Over the extended reals the norms inside the layer in the kernel and in the reference end at one value. -/
theorem algebraic_normH : Cert.algebraic_KernelNormHIdeal_ReferenceNormHIdeal := fun m ρ m' ρ' _ hag =>
  ⟨fun c => Cert.KernelNormHIdeal.RefValue.G m c, Cert.KernelNormHIdeal.RefValue.run m ρ,
    (θ_run Cert.ReferenceNormHIdeal.defs _ _).mono
      (fun _ h c => ⟨(h c).1.trans (by rw [(hag c).1, (hag c).2]; rfl), (h c).2⟩)
      (Cert.ReferenceNormHIdeal.Value.run (F := Ideal) m' ρ')⟩

/-- The reference of the head norm of the recurrent branch ends with its arguments as they were; it has no counters. -/
theorem frame_post : Cert.quiescent_ReferencePostIdeal := fun m ρ _ =>
  (θ_run Cert.ReferencePostIdeal.defs _ _).mono (fun r h => ⟨fun c => (h c).2, sem_eq_zero_of_no_sems (by decide) r.2⟩)
    (Cert.ReferencePostIdeal.Value.run (F := Ideal) m ρ)

/-- Over the extended reals the head norm of the recurrent branch in the kernel and in the reference end at one value. -/
theorem algebraic_post : Cert.algebraic_KernelPostIdeal_ReferencePostIdeal := fun m ρ m' ρ' _ hag =>
  ⟨fun c => Cert.KernelPostIdeal.RefValue.G m c, Cert.KernelPostIdeal.RefValue.run m ρ,
    (θ_run Cert.ReferencePostIdeal.defs _ _).mono
      (fun _ h c => ⟨(h c).1.trans (by rw [(hag c).1, (hag c).2.1, (hag c).2.2.1, (hag c).2.2.2]; rfl), (h c).2⟩)
      (Cert.ReferencePostIdeal.Value.run (F := Ideal) m' ρ')⟩

/-- The reference of the depthwise convolutions ends with its arguments as they were; it has no counters. -/
theorem frame_conv : Cert.quiescent_ReferenceConvIdeal := fun m ρ _ =>
  (θ_run Cert.ReferenceConvIdeal.defs _ _).mono (fun r h => ⟨fun c => (h c).2, sem_eq_zero_of_no_sems (by decide) r.2⟩)
    (Cert.ReferenceConvIdeal.Value.run (F := Ideal) m ρ)

/-- Over the extended reals the depthwise convolutions in the kernel and in the reference end at one value. -/
theorem algebraic_conv : Cert.algebraic_KernelConvIdeal_ReferenceConvIdeal := fun m ρ m' ρ' _ hag =>
  ⟨fun c => Cert.KernelConvIdeal.RefValue.G m c, Cert.KernelConvIdeal.RefValue.run m ρ,
    (θ_run Cert.ReferenceConvIdeal.defs _ _).mono
      (fun _ h c => ⟨(h c).1.trans (by rw [Cert.ReferenceConvIdeal.Read.val_main_v49_eq m' c, (hag c).1, (hag c).2.1, (hag c).2.2]), (h c).2⟩)
      (Cert.ReferenceConvIdeal.Value.run (F := Ideal) m' ρ')⟩

/-- The reference of the values of the attention's first group ends with its arguments as they were; it has no counters. -/
theorem frame_attnV0 : Cert.quiescent_ReferenceAttnV0Ideal := fun m ρ _ =>
  (θ_run Cert.ReferenceAttnV0Ideal.defs _ _).mono (fun r h => ⟨fun c => (h c).2, sem_eq_zero_of_no_sems (by decide) r.2⟩)
    (Cert.ReferenceAttnV0Ideal.Value.run (F := Ideal) m ρ)

/-- Over the extended reals the values of the attention's first group in the kernel and in the reference end at one value. -/
theorem algebraic_attnV0 : Cert.algebraic_KernelAttnV0Ideal_ReferenceAttnV0Ideal := fun m ρ m' ρ' _ hag =>
  ⟨fun c => Cert.KernelAttnV0Ideal.RefValue.G m c, Cert.KernelAttnV0Ideal.RefValue.run m ρ,
    (θ_run Cert.ReferenceAttnV0Ideal.defs _ _).mono
      (fun _ h c => ⟨(h c).1.trans (by rw [(hag c).1, (hag c).2]; rfl), (h c).2⟩)
      (Cert.ReferenceAttnV0Ideal.Value.run (F := Ideal) m' ρ')⟩

/-- The reference of the values of the attention's second group ends with its arguments as they were; it has no counters. -/
theorem frame_attnV1 : Cert.quiescent_ReferenceAttnV1Ideal := fun m ρ _ =>
  (θ_run Cert.ReferenceAttnV1Ideal.defs _ _).mono (fun r h => ⟨fun c => (h c).2, sem_eq_zero_of_no_sems (by decide) r.2⟩)
    (Cert.ReferenceAttnV1Ideal.Value.run (F := Ideal) m ρ)

/-- Over the extended reals the values of the attention's second group in the kernel and in the reference end at one value. -/
theorem algebraic_attnV1 : Cert.algebraic_KernelAttnV1Ideal_ReferenceAttnV1Ideal := fun m ρ m' ρ' _ hag =>
  ⟨fun c => Cert.KernelAttnV1Ideal.RefValue.G m c, Cert.KernelAttnV1Ideal.RefValue.run m ρ,
    (θ_run Cert.ReferenceAttnV1Ideal.defs _ _).mono
      (fun _ h c => ⟨(h c).1.trans (by rw [(hag c).1, (hag c).2]; rfl), (h c).2⟩)
      (Cert.ReferenceAttnV1Ideal.Value.run (F := Ideal) m' ρ')⟩

/-- The reference of the values of the attention's third group ends with its arguments as they were; it has no counters. -/
theorem frame_attnV2 : Cert.quiescent_ReferenceAttnV2Ideal := fun m ρ _ =>
  (θ_run Cert.ReferenceAttnV2Ideal.defs _ _).mono (fun r h => ⟨fun c => (h c).2, sem_eq_zero_of_no_sems (by decide) r.2⟩)
    (Cert.ReferenceAttnV2Ideal.Value.run (F := Ideal) m ρ)

/-- Over the extended reals the values of the attention's third group in the kernel and in the reference end at one value. -/
theorem algebraic_attnV2 : Cert.algebraic_KernelAttnV2Ideal_ReferenceAttnV2Ideal := fun m ρ m' ρ' _ hag =>
  ⟨fun c => Cert.KernelAttnV2Ideal.RefValue.G m c, Cert.KernelAttnV2Ideal.RefValue.run m ρ,
    (θ_run Cert.ReferenceAttnV2Ideal.defs _ _).mono
      (fun _ h c => ⟨(h c).1.trans (by rw [(hag c).1, (hag c).2]; rfl), (h c).2⟩)
      (Cert.ReferenceAttnV2Ideal.Value.run (F := Ideal) m' ρ')⟩

theorem claim : Cert.Claim := ⟨Cert.Kernel.Gen.facts, Cert.KernelIdeal.Gen.facts, Cert.ReferenceIdeal.Gen.facts, Cert.KernelQK.Gen.facts, Cert.KernelQKIdeal.Gen.facts, Cert.ReferenceQKIdeal.Gen.facts, Cert.KernelVO.Gen.facts, Cert.KernelVOIdeal.Gen.facts, Cert.ReferenceVOIdeal.Gen.facts, Cert.KernelGates.Gen.facts, Cert.KernelGatesIdeal.Gen.facts, Cert.ReferenceGatesIdeal.Gen.facts, Cert.KernelGateUp.Gen.facts, Cert.KernelGateUpIdeal.Gen.facts, Cert.ReferenceGateUpIdeal.Gen.facts, Cert.KernelDown.Gen.facts, Cert.KernelDownIdeal.Gen.facts, Cert.ReferenceDownIdeal.Gen.facts, Cert.KernelMerge.Gen.facts, Cert.KernelMergeIdeal.Gen.facts, Cert.ReferenceMergeIdeal.Gen.facts, Cert.KernelOut.Gen.facts, Cert.KernelOutIdeal.Gen.facts, Cert.ReferenceOutIdeal.Gen.facts, Cert.KernelNorm.Gen.facts, Cert.KernelNormIdeal.Gen.facts, Cert.ReferenceNormIdeal.Gen.facts, Cert.KernelNormH.Gen.facts, Cert.KernelNormHIdeal.Gen.facts, Cert.ReferenceNormHIdeal.Gen.facts, Cert.KernelPost.Gen.facts, Cert.KernelPostIdeal.Gen.facts, Cert.ReferencePostIdeal.Gen.facts, Cert.KernelConv.Gen.facts, Cert.KernelConvIdeal.Gen.facts, Cert.ReferenceConvIdeal.Gen.facts, Cert.KernelAttnV0.Gen.facts, Cert.KernelAttnV0Ideal.Gen.facts, Cert.ReferenceAttnV0Ideal.Gen.facts, Cert.KernelAttnV1.Gen.facts, Cert.KernelAttnV1Ideal.Gen.facts, Cert.ReferenceAttnV1Ideal.Gen.facts, Cert.KernelAttnV2.Gen.facts, Cert.KernelAttnV2Ideal.Gen.facts, Cert.ReferenceAttnV2Ideal.Gen.facts,
  fun m ρ _ => Cert.Kernel.Gen.frame m ρ, fun m ρ _ => Cert.KernelIdeal.Gen.frame m ρ, frame_branchGates,
  fun m ρ _ => Cert.KernelQK.Gen.frame m ρ, fun m ρ _ => Cert.KernelQKIdeal.Gen.frame m ρ, frame_qk,
  fun m ρ _ => Cert.KernelVO.Gen.frame m ρ, fun m ρ _ => Cert.KernelVOIdeal.Gen.frame m ρ, frame_vo,
  fun m ρ _ => Cert.KernelGates.Gen.frame m ρ, fun m ρ _ => Cert.KernelGatesIdeal.Gen.frame m ρ, frame_gates,
  fun m ρ _ => Cert.KernelGateUp.Gen.frame m ρ, fun m ρ _ => Cert.KernelGateUpIdeal.Gen.frame m ρ, frame_gateUp,
  fun m ρ _ => Cert.KernelDown.Gen.frame m ρ, fun m ρ _ => Cert.KernelDownIdeal.Gen.frame m ρ, frame_down,
  fun m ρ _ => Cert.KernelMerge.Gen.frame m ρ, fun m ρ _ => Cert.KernelMergeIdeal.Gen.frame m ρ, frame_merge,
  fun m ρ _ => Cert.KernelOut.Gen.frame m ρ, fun m ρ _ => Cert.KernelOutIdeal.Gen.frame m ρ, frame_out,
  fun m ρ _ => Cert.KernelNorm.Gen.frame m ρ, fun m ρ _ => Cert.KernelNormIdeal.Gen.frame m ρ, frame_norm,
  fun m ρ _ => Cert.KernelNormH.Gen.frame m ρ, fun m ρ _ => Cert.KernelNormHIdeal.Gen.frame m ρ, frame_normH,
  fun m ρ _ => Cert.KernelPost.Gen.frame m ρ, fun m ρ _ => Cert.KernelPostIdeal.Gen.frame m ρ, frame_post,
  fun m ρ _ => Cert.KernelConv.Gen.frame m ρ, fun m ρ _ => Cert.KernelConvIdeal.Gen.frame m ρ, frame_conv,
  fun m ρ _ => Cert.KernelAttnV0.Gen.frame m ρ, fun m ρ _ => Cert.KernelAttnV0Ideal.Gen.frame m ρ, frame_attnV0,
  fun m ρ _ => Cert.KernelAttnV1.Gen.frame m ρ, fun m ρ _ => Cert.KernelAttnV1Ideal.Gen.frame m ρ, frame_attnV1,
  fun m ρ _ => Cert.KernelAttnV2.Gen.frame m ρ, fun m ρ _ => Cert.KernelAttnV2Ideal.Gen.frame m ρ, frame_attnV2,
  trivial, algebraic_branchGates,
  trivial, algebraic_qk,
  trivial, algebraic_vo,
  trivial, algebraic_gates,
  trivial, algebraic_gateUp,
  trivial, algebraic_down,
  trivial, algebraic_merge,
  trivial, algebraic_out,
  trivial, algebraic_norm,
  trivial, algebraic_normH,
  trivial, algebraic_post,
  trivial, algebraic_conv,
  trivial, algebraic_attnV0,
  trivial, algebraic_attnV1,
  trivial, algebraic_attnV2⟩

end Cert.Proof

end
